-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v1_0)) (v1 : (c : Dev Cert.FfnIdeal.nD) → Buf (Elt Ideal) ((c.tc : Thread Cert.FfnIdeal.nD Cert.FfnIdeal.τ).loc Cert.FfnIdeal.main_v1_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1_0) = v0 c
          ∧ r.2.mem ((c.tc : Thread Cert.FfnIdeal.nD Cert.FfnIdeal.τ).loc Cert.FfnIdeal.main_v1_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v74) = v0 c
          ∧ r.2.mem ((c.tc : Thread Cert.FfnRefIdeal.nD Cert.FfnRefIdeal.τ).loc Cert.FfnRefIdeal.main_v75) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v3_0)) (v1 : (c : Dev Cert.AttnIdeal.nD) → Buf (Elt Ideal) ((c.tc : Thread Cert.AttnIdeal.nD Cert.AttnIdeal.τ).loc Cert.AttnIdeal.main_v3_1)) (v2 : (c : Dev Cert.AttnIdeal.nD) → Buf (Elt Ideal) ((c.tc : Thread Cert.AttnIdeal.nD Cert.AttnIdeal.τ).loc Cert.AttnIdeal.main_v3_2)) (v3 : (c : Dev Cert.AttnIdeal.nD) → Buf (Elt Ideal) ((c.tc : Thread Cert.AttnIdeal.nD Cert.AttnIdeal.τ).loc Cert.AttnIdeal.main_v3_3)) (v4 : (c : Dev Cert.AttnIdeal.nD) → Buf (Elt Ideal) ((c.tc : Thread Cert.AttnIdeal.nD Cert.AttnIdeal.τ).loc Cert.AttnIdeal.main_v3_4)) (v5 : (c : Dev Cert.AttnIdeal.nD) → Buf (Elt Ideal) ((c.tc : Thread Cert.AttnIdeal.nD Cert.AttnIdeal.τ).loc Cert.AttnIdeal.main_v3_5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3_0) = v0 c
          ∧ r.2.mem ((c.tc : Thread Cert.AttnIdeal.nD Cert.AttnIdeal.τ).loc Cert.AttnIdeal.main_v3_1) = v1 c
          ∧ r.2.mem ((c.tc : Thread Cert.AttnIdeal.nD Cert.AttnIdeal.τ).loc Cert.AttnIdeal.main_v3_2) = v2 c
          ∧ r.2.mem ((c.tc : Thread Cert.AttnIdeal.nD Cert.AttnIdeal.τ).loc Cert.AttnIdeal.main_v3_3) = v3 c
          ∧ r.2.mem ((c.tc : Thread Cert.AttnIdeal.nD Cert.AttnIdeal.τ).loc Cert.AttnIdeal.main_v3_4) = v4 c
          ∧ r.2.mem ((c.tc : Thread Cert.AttnIdeal.nD Cert.AttnIdeal.τ).loc Cert.AttnIdeal.main_v3_5) = v5 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v68) = v0 c
          ∧ r.2.mem ((c.tc : Thread Cert.AttnRefIdeal.nD Cert.AttnRefIdeal.τ).loc Cert.AttnRefIdeal.main_v69) = v1 c
          ∧ r.2.mem ((c.tc : Thread Cert.AttnRefIdeal.nD Cert.AttnRefIdeal.τ).loc Cert.AttnRefIdeal.main_v70) = v2 c
          ∧ r.2.mem ((c.tc : Thread Cert.AttnRefIdeal.nD Cert.AttnRefIdeal.τ).loc Cert.AttnRefIdeal.main_v71) = v3 c
          ∧ r.2.mem ((c.tc : Thread Cert.AttnRefIdeal.nD Cert.AttnRefIdeal.τ).loc Cert.AttnRefIdeal.main_v72) = v4 c
          ∧ r.2.mem ((c.tc : Thread Cert.AttnRefIdeal.nD Cert.AttnRefIdeal.τ).loc Cert.AttnRefIdeal.main_v73) = v5 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)
      ∧ m' ((c.tc : Thread Cert.TailRefIdeal.nD Cert.TailRefIdeal.τ).loc Cert.TailRefIdeal.main_arg14) = m ((c.tc : Thread Cert.TailIdeal.nD Cert.TailIdeal.τ).loc Cert.TailIdeal.main_arg14)) →
    ∃ (v0 : (c : Dev Cert.TailIdeal.nD) → Buf (Elt Ideal) ((c.tc : Thread Cert.TailIdeal.nD Cert.TailIdeal.τ).loc Cert.TailIdeal.main_v6_0)) (v1 : (c : Dev Cert.TailIdeal.nD) → Buf (Elt Ideal) ((c.tc : Thread Cert.TailIdeal.nD Cert.TailIdeal.τ).loc Cert.TailIdeal.main_v6_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v6_0) = v0 c
          ∧ r.2.mem ((c.tc : Thread Cert.TailIdeal.nD Cert.TailIdeal.τ).loc Cert.TailIdeal.main_v6_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v110) = v0 c
          ∧ r.2.mem ((c.tc : Thread Cert.TailRefIdeal.nD Cert.TailRefIdeal.τ).loc Cert.TailRefIdeal.main_v51) = v1 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13)
          ∧ r.2.mem ((c.tc : Thread Cert.TailRefIdeal.nD Cert.TailRefIdeal.τ).loc Cert.TailRefIdeal.main_arg14) = m' ((c.tc : Thread Cert.TailRefIdeal.nD Cert.TailRefIdeal.τ).loc Cert.TailRefIdeal.main_arg14))

def Claim : Prop :=
  ∃ (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hTail : Cert.Tail.Facts) (hTailIdeal : Cert.TailIdeal.Facts) (hTailRefIdeal : Cert.TailRefIdeal.Facts) (hPre_finite_scores : Cert.Pre_finite_scores.Facts),
    quiescent_Ffn (hFfn := hFfn)
    ∧ quiescent_FfnIdeal (hFfnIdeal := hFfnIdeal)
    ∧ quiescent_FfnRefIdeal (hFfnRefIdeal := hFfnRefIdeal)
    ∧ quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Proj (hProj := hProj)
    ∧ quiescent_ProjIdeal (hProjIdeal := hProjIdeal)
    ∧ quiescent_ProjRefIdeal (hProjRefIdeal := hProjRefIdeal)
    ∧ quiescent_Tail (hTail := hTail)
    ∧ quiescent_TailIdeal (hTailIdeal := hTailIdeal)
    ∧ quiescent_TailRefIdeal (hTailRefIdeal := hTailRefIdeal)
    ∧ preserves_Ffn_FfnIdeal
    ∧ algebraic_FfnIdeal_FfnRefIdeal (hFfnIdeal := hFfnIdeal) (hFfnRefIdeal := hFfnRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Proj_ProjIdeal
    ∧ algebraic_ProjIdeal_ProjRefIdeal (hProjIdeal := hProjIdeal) (hProjRefIdeal := hProjRefIdeal)
    ∧ preserves_Tail_TailIdeal
    ∧ algebraic_TailIdeal_TailRefIdeal (hTailIdeal := hTailIdeal) (hTailRefIdeal := hTailRefIdeal)
-- ==== Pre_finite_scores.lean ====
abbrev S8 : Shape := ⟨1, ![8]⟩
abbrev S128x4352 : Shape := ⟨2, ![128, 4352]⟩
abbrev S8x128x128 : Shape := ⟨3, ![8, 128, 128]⟩
abbrev S8x512x512 : Shape := ⟨3, ![8, 512, 512]⟩
abbrev S8x16x144 : Shape := ⟨3, ![8, 16, 144]⟩
abbrev S8x16x528 : Shape := ⟨3, ![8, 16, 528]⟩
abbrev S_ : Shape := ⟨0, ![]⟩

class Facts : Prop where
  bcast_S_S8 : S_.BroadcastsInDim S8 (![] : Fin 0 → Fin S8.rank)
  bcast_S_S128x4352 : S_.BroadcastsInDim S128x4352 (![] : Fin 0 → Fin S128x4352.rank)
  bcast_S_S8x128x128 : S_.BroadcastsInDim S8x128x128 (![] : Fin 0 → Fin S8x128x128.rank)
  bcast_S_S8x512x512 : S_.BroadcastsInDim S8x512x512 (![] : Fin 0 → Fin S8x512x512.rank)
  bcast_S_S8x16x144 : S_.BroadcastsInDim S8x16x144 (![] : Fin 0 → Fin S8x16x144.rank)
  bcast_S_S8x16x528 : S_.BroadcastsInDim S8x16x528 (![] : Fin 0 → Fin S8x16x528.rank)

variable [Facts]

def fn {F : FTy → Type} [FloatOps F] (main_arg0 : FVec F S8 .f32) (main_arg1 : FVec F S128x4352 .f32) (main_arg2 : FVec F S8x128x128 .f32) (main_arg3 : FVec F S8x128x128 .f32) (main_arg4 : FVec F S8x512x512 .f32) (main_arg5 : FVec F S8x512x512 .f32) (main_arg6 : FVec F S8x16x144 .f32) (main_arg7 : FVec F S8x16x528 .f32) : IVec S8 1 × IVec S128x4352 1 × IVec S8x128x128 1 × IVec S8x512x512 1 × IVec S8x16x144 1 × IVec S8x16x528 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S128x4352 .f32 := Host.absf main_arg1
  let main_cst_0 : FVec F S_ .f32 := constant S_ .f32 0x7F800000#32
  let main_v4 : FVec F S128x4352 .f32 := broadcastInDim S128x4352 ![] bcast_S_S128x4352 main_cst_0
  let main_v5 : IVec S128x4352 1 := cmpf .olt main_v3 main_v4
  let main_v6 : FVec F S8x128x128 .f32 := Host.absf main_arg2
  let main_cst_1 : FVec F S_ .f32 := constant S_ .f32 0x7F800000#32
  let main_v7 : FVec F S8x128x128 .f32 := broadcastInDim S8x128x128 ![] bcast_S_S8x128x128 main_cst_1
  let main_v8 : IVec S8x128x128 1 := cmpf .olt main_v6 main_v7
  let main_v9 : FVec F S8x512x512 .f32 := Host.absf main_arg4
  let main_cst_2 : FVec F S_ .f32 := constant S_ .f32 0x7F800000#32
  let main_v10 : FVec F S8x512x512 .f32 := broadcastInDim S8x512x512 ![] bcast_S_S8x512x512 main_cst_2
  let main_v11 : IVec S8x512x512 1 := cmpf .olt main_v9 main_v10
  let main_v12 : FVec F S8x16x144 .f32 := Host.absf main_arg6
  let main_cst_3 : FVec F S_ .f32 := constant S_ .f32 0x7F800000#32
  let main_v13 : FVec F S8x16x144 .f32 := broadcastInDim S8x16x144 ![] bcast_S_S8x16x144 main_cst_3
  let main_v14 : IVec S8x16x144 1 := cmpf .olt main_v12 main_v13
  let main_v15 : FVec F S8x16x528 .f32 := Host.absf main_arg7
  let main_cst_4 : FVec F S_ .f32 := constant S_ .f32 0x7F800000#32
  let main_v16 : FVec F S8x16x528 .f32 := broadcastInDim S8x16x528 ![] bcast_S_S8x16x528 main_cst_4
  let main_v17 : IVec S8x16x528 1 := cmpf .olt main_v15 main_v16
  (main_v2, main_v5, main_v8, main_v11, main_v14, main_v17)
-- ==== Ffn.lean ====
abbrev S4x8192x1024 : Shape := ⟨3, ![4, 8192, 1024]⟩
abbrev S1x1024 : Shape := ⟨2, ![1, 1024]⟩
abbrev S1024x6144 : Shape := ⟨2, ![1024, 6144]⟩
abbrev S3x3072 : Shape := ⟨2, ![3, 3072]⟩
abbrev S1x3072 : Shape := ⟨2, ![1, 3072]⟩
abbrev S3072x1024 : Shape := ⟨2, ![3072, 1024]⟩
abbrev S_ : Shape := ⟨0, ![]⟩
abbrev S16x128 : Shape := ⟨2, ![16, 128]⟩
abbrev S4x2x3072 : Shape := ⟨3, ![4, 2, 3072]⟩
abbrev S1x512x1024 : Shape := ⟨3, ![1, 512, 1024]⟩
abbrev S1x2x3072 : Shape := ⟨3, ![1, 2, 3072]⟩
abbrev S6x8x512 : Shape := ⟨3, ![6, 8, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩
abbrev S1x8x512 : Shape := ⟨3, ![1, 8, 512]⟩
abbrev S8x512 : Shape := ⟨2, ![8, 512]⟩
abbrev S1x512 : Shape := ⟨2, ![1, 512]⟩
abbrev S2x512 : Shape := ⟨2, ![2, 512]⟩
abbrev S1x2x512 : Shape := ⟨3, ![1, 2, 512]⟩
abbrev S3x512 : Shape := ⟨2, ![3, 512]⟩
abbrev S16x384 : Shape := ⟨2, ![16, 384]⟩
abbrev S16x512 : Shape := ⟨2, ![16, 512]⟩
abbrev S496x512 : Shape := ⟨2, ![496, 512]⟩

abbrev nBuf : Space → Nat
  | .hbm => 11
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024, .f32⟩
  | .hbm, ⟨3, _⟩ => ⟨S1024x6144, .bf16⟩
  | .hbm, ⟨4, _⟩ => ⟨S3x3072, .f32⟩
  | .hbm, ⟨5, _⟩ => ⟨S1x3072, .f32⟩
  | .hbm, ⟨6, _⟩ => ⟨S3072x1024, .bf16⟩
  | .hbm, ⟨7, _⟩ => ⟨S_, .i32⟩
  | .hbm, ⟨8, _⟩ => ⟨S16x128, .i32⟩
  | .hbm, ⟨9, _⟩ => ⟨S4x8192x1024, .f32⟩
  | .hbm, ⟨10, _⟩ => ⟨S4x2x3072, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x6144, .bf16⟩
  | .local _ .vmem, ⟨5, _⟩ => ⟨S3x3072, .f32⟩
  | .local _ .vmem, ⟨6, _⟩ => ⟨S1x3072, .f32⟩
  | .local _ .vmem, ⟨7, _⟩ => ⟨S3072x1024, .bf16⟩
  | .local _ .vmem, ⟨8, _⟩ => ⟨S16x128, .i32⟩
  | .local _ .vmem, ⟨9, _⟩ => ⟨S1x512x1024, .f32⟩
  | .local _ .vmem, ⟨10, _⟩ => ⟨S1x512x1024, .f32⟩
  | .local _ .vmem, ⟨11, _⟩ => ⟨S1x2x3072, .f32⟩
  | .local _ .vmem, ⟨12, _⟩ => ⟨S1x2x3072, .f32⟩
  | .local _ .vmem, ⟨13, _⟩ => ⟨S6x8x512, .f32⟩
  | .local _ .vmem, ⟨14, _⟩ => ⟨S6x8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S4x8192x1024 : Shape := ⟨3, ![4, 8192, 1024]⟩
abbrev S1x1024 : Shape := ⟨2, ![1, 1024]⟩
abbrev S1024x6144 : Shape := ⟨2, ![1024, 6144]⟩
abbrev S3x3072 : Shape := ⟨2, ![3, 3072]⟩
abbrev S1x3072 : Shape := ⟨2, ![1, 3072]⟩
abbrev S3072x1024 : Shape := ⟨2, ![3072, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6144 : Shape := ⟨3, ![4, 8192, 6144]⟩
abbrev S4x8192x3072 : Shape := ⟨3, ![4, 8192, 3072]⟩
abbrev S4x2x3072 : Shape := ⟨3, ![4, 2, 3072]⟩
abbrev S4x8194x3072 : Shape := ⟨3, ![4, 8194, 3072]⟩
abbrev S3072 : Shape := ⟨1, ![3072]⟩
abbrev S1x1x3072 : Shape := ⟨3, ![1, 1, 3072]⟩

abbrev nBuf : Space → Nat
  | .hbm => 94
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024, .f32⟩
  | .hbm, ⟨3, _⟩ => ⟨S1024x6144, .bf16⟩
  | .hbm, ⟨4, _⟩ => ⟨S3x3072, .f32⟩
  | .hbm, ⟨5, _⟩ => ⟨S1x3072, .f32⟩
  | .hbm, ⟨6, _⟩ => ⟨S3072x1024, .bf16⟩
  | .hbm, ⟨7, _⟩ => ⟨S1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S1024x6144, .f32⟩
  | .hbm, ⟨25, _⟩ => ⟨S4x8192x6144, .f32⟩
  | .hbm, ⟨26, _⟩ => ⟨S4x8192x3072, .f32⟩
  | .hbm, ⟨27, _⟩ => ⟨S4x8192x3072, .f32⟩
  | .hbm, ⟨28, _⟩ => ⟨S_, .f32⟩
  | .hbm, ⟨29, _⟩ => ⟨S4x2x3072, .f32⟩
  | .hbm, ⟨30, _⟩ => ⟨S4x8194x3072, .f32⟩
  | .hbm, ⟨31, _⟩ => ⟨S3072, .f32⟩
  | .hbm, ⟨32, _⟩ => ⟨S1x3072, .f32⟩
  | .hbm, ⟨33, _⟩ => ⟨S3072, .f32⟩
  | .hbm, ⟨34, _⟩ => ⟨S4x8192x3072, .f32⟩
  | .hbm, ⟨35, _⟩ => ⟨S1x1x3072, .f32⟩
  | .hbm, ⟨36, _⟩ => ⟨S4x8192x3072, .f32⟩
  | .hbm, ⟨37, _⟩ => ⟨S4x8192x3072, .f32⟩
  | .hbm, ⟨38, _⟩ => ⟨S1x1x3072, .f32⟩
  | .hbm, ⟨39, _⟩ => ⟨S4x8192x3072, .f32⟩
  | .hbm, ⟨40, _⟩ => ⟨S4x8192x3072, .f32⟩
  | .hbm, ⟨41, _⟩ => ⟨S1x3072, .f32⟩
  | .hbm, ⟨42, _⟩ => ⟨S3072, .f32⟩
  | .hbm, ⟨43, _⟩ => ⟨S4x8192x3072, .f32⟩
  | .hbm, ⟨44, _⟩ => ⟨S1x1x3072, .f32⟩
  | .hbm, ⟨45, _⟩ => ⟨S4x8192x3072, .f32⟩
  | .hbm, ⟨46, _⟩ => ⟨S4x8192x3072, .f32⟩
  | .hbm, ⟨47, _⟩ => ⟨S4x8192x3072, .f32⟩
  | .hbm, ⟨48, _⟩ => ⟨S1x3072, .f32⟩
  | .hbm, ⟨49, _⟩ => ⟨S3072, .f32⟩
  | .hbm, ⟨50, _⟩ => ⟨S4x8192x3072, .f32⟩
  | .hbm, ⟨51, _⟩ => ⟨S1x1x3072, .f32⟩
  | .hbm, ⟨52, _⟩ => ⟨S4x8192x3072, .f32⟩
  | .hbm, ⟨53, _⟩ => ⟨S4x8192x3072, .f32⟩
  | .hbm, ⟨54, _⟩ => ⟨S4x8192x3072, .f32⟩
  | .hbm, ⟨55, _⟩ => ⟨S4x8192x3072, .f32⟩
  | .hbm, ⟨56, _⟩ => ⟨S4x8192x3072, .f32⟩
  | .hbm, ⟨57, _⟩ => ⟨S_, .f32⟩
  | .hbm, ⟨58, _⟩ => ⟨S4x8192x3072, .f32⟩
  | .hbm, ⟨59, _⟩ => ⟨S4x8192x3072, .f32⟩
  | .hbm, ⟨60, _⟩ => ⟨S4x8192x3072, .f32⟩
  | .hbm, ⟨61, _⟩ => ⟨S_, .f32⟩
  | .hbm, ⟨62, _⟩ => ⟨S4x8192x3072, .f32⟩
  | .hbm, ⟨63, _⟩ => ⟨S4x8192x3072, .f32⟩
  | .hbm, ⟨64, _⟩ => ⟨S4x8192x3072, .f32⟩
  | .hbm, ⟨65, _⟩ => ⟨S_, .f32⟩
  | .hbm, ⟨66, _⟩ => ⟨S4x8192x3072, .f32⟩
  | .hbm, ⟨67, _⟩ => ⟨S4x8192x3072, .f32⟩
  | .hbm, ⟨68, _⟩ => ⟨S_, .f32⟩
  | .hbm, ⟨69, _⟩ => ⟨S4x8192x3072, .f32⟩
  | .hbm, ⟨70, _⟩ => ⟨S4x8192x3072, .f32⟩
  | .hbm, ⟨71, _⟩ => ⟨S4x8192x3072, .f32⟩
  | .hbm, ⟨72, _⟩ => ⟨S4x8192x3072, .f32⟩
  | .hbm, ⟨73, _⟩ => ⟨S3072x1024, .f32⟩
  | .hbm, ⟨74, _⟩ => ⟨S4x8192x1024, .f32⟩
  | .hbm, ⟨75, _⟩ => ⟨S1024, .f32⟩
  | .hbm, ⟨76, _⟩ => ⟨S4x8192x1024, .f32⟩
  | .hbm, ⟨77, _⟩ => ⟨S_, .f32⟩
  | .hbm, ⟨78, _⟩ => ⟨S4x8192, .f32⟩
  | .hbm, ⟨79, _⟩ => ⟨S4x8192x1, .f32⟩
  | .hbm, ⟨80, _⟩ => ⟨S_, .f32⟩
  | .hbm, ⟨81, _⟩ => ⟨S4x8192x1, .f32⟩
  | .hbm, ⟨82, _⟩ => ⟨S4x8192x1, .f32⟩
  | .hbm, ⟨83, _⟩ => ⟨S_, .f32⟩
  | .hbm, ⟨84, _⟩ => ⟨S4x8192x1, .f32⟩
  | .hbm, ⟨85, _⟩ => ⟨S4x8192x1, .f32⟩
  | .hbm, ⟨86, _⟩ => ⟨S4x8192x1, .f32⟩
  | .hbm, ⟨87, _⟩ => ⟨S4x8192x1024, .f32⟩
  | .hbm, ⟨88, _⟩ => ⟨S4x8192x1024, .f32⟩
  | .hbm, ⟨89, _⟩ => ⟨S1x1x1024, .f32⟩
  | .hbm, ⟨90, _⟩ => ⟨S4x8192x1024, .f32⟩
  | .hbm, ⟨91, _⟩ => ⟨S4x8192x1024, .f32⟩
  | .hbm, ⟨92, _⟩ => ⟨S4x8192x1024, .f32⟩
  | .hbm, ⟨93, _⟩ => ⟨S4x2x3072, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_3 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_7 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== Attn.lean ====
abbrev S8 : Shape := ⟨1, ![8]⟩
abbrev S128x4352 : Shape := ⟨2, ![128, 4352]⟩
abbrev S8x128x128 : Shape := ⟨3, ![8, 128, 128]⟩
abbrev S8x512x512 : Shape := ⟨3, ![8, 512, 512]⟩
abbrev S8x16x144 : Shape := ⟨3, ![8, 16, 144]⟩
abbrev S8x16x528 : Shape := ⟨3, ![8, 16, 528]⟩
abbrev S_ : Shape := ⟨0, ![]⟩
abbrev S8x16x256 : Shape := ⟨3, ![8, 16, 256]⟩
abbrev S8x16x640 : Shape := ⟨3, ![8, 16, 640]⟩
abbrev S16x128 : Shape := ⟨2, ![16, 128]⟩
abbrev S128x512 : Shape := ⟨2, ![128, 512]⟩
abbrev S128x128 : Shape := ⟨2, ![128, 128]⟩
abbrev S16x4352 : Shape := ⟨2, ![16, 4352]⟩
abbrev S1x128x128 : Shape := ⟨3, ![1, 128, 128]⟩
abbrev S1x512x512 : Shape := ⟨3, ![1, 512, 512]⟩
abbrev S16x512 : Shape := ⟨2, ![16, 512]⟩
abbrev S256x128 : Shape := ⟨2, ![256, 128]⟩
abbrev S640x512 : Shape := ⟨2, ![640, 512]⟩
abbrev S112x128 : Shape := ⟨2, ![112, 128]⟩
abbrev S512x512 : Shape := ⟨2, ![512, 512]⟩
abbrev S112x512 : Shape := ⟨2, ![112, 512]⟩
abbrev S32x1 : Shape := ⟨2, ![32, 1]⟩
abbrev S32x128 : Shape := ⟨2, ![32, 128]⟩
abbrev S1x16x256 : Shape := ⟨3, ![1, 16, 256]⟩
abbrev S16x256 : Shape := ⟨2, ![16, 256]⟩
abbrev S32x256 : Shape := ⟨2, ![32, 256]⟩
abbrev S1 : Shape := ⟨1, ![1]⟩
abbrev S32 : Shape := ⟨1, ![32]⟩
abbrev S1x16x640 : Shape := ⟨3, ![1, 16, 640]⟩
abbrev S16x640 : Shape := ⟨2, ![16, 640]⟩
abbrev S32x640 : Shape := ⟨2, ![32, 640]⟩
abbrev S640x128 : Shape := ⟨2, ![640, 128]⟩

abbrev nBuf : Space → Nat
  | .hbm => 22
  | .vmem => 29
  | .smem => 1
  | _ => 0

abbrev bufTy : (tb : Table) → Fin (tcTables nBuf tb) → BufTy
  | .hbm, ⟨0, _⟩ => ⟨S8, .f32⟩
  | .hbm, ⟨1, _⟩ => ⟨S128x4352, .f32⟩
  | .hbm, ⟨2, _⟩ => ⟨S8x128x128, .f32⟩
  | .hbm, ⟨3, _⟩ => ⟨S8x128x128, .f32⟩
  | .hbm, ⟨4, _⟩ => ⟨S8x512x512, .f32⟩
  | .hbm, ⟨5, _⟩ => ⟨S8x512x512, .f32⟩
  | .hbm, ⟨6, _⟩ => ⟨S8x16x144, .f32⟩
  | .hbm, ⟨7, _⟩ => ⟨S8x16x528, .f32⟩
  | .hbm, ⟨8, _⟩ => ⟨S_, .f32⟩
  | .hbm, ⟨9, _⟩ => ⟨S_, .f32⟩
  | .hbm, ⟨10, _⟩ => ⟨S8x16x256, .f32⟩
  | .hbm, ⟨11, _⟩ => ⟨S_, .f32⟩
  | .hbm, ⟨12, _⟩ => ⟨S_, .f32⟩
  | .hbm, ⟨13, _⟩ => ⟨S8x16x640, .f32⟩
  | .hbm, ⟨14, _⟩ => ⟨S_, .i32⟩
  | .hbm, ⟨15, _⟩ => ⟨S16x128, .i32⟩
  | .hbm, ⟨16, _⟩ => ⟨S128x512, .f32⟩
  | .hbm, ⟨17, _⟩ => ⟨S128x512, .f32⟩
  | .hbm, ⟨18, _⟩ => ⟨S128x128, .f32⟩
  | .hbm, ⟨19, _⟩ => ⟨S128x128, .f32⟩
  | .hbm, ⟨20, _⟩ => ⟨S128x512, .f32⟩
  | .hbm, ⟨21, _⟩ => ⟨S128x512, .f32⟩
  | .local _ .vmem, ⟨0, _⟩ => ⟨S16x4352, .f32⟩
  | .local _ .vmem, ⟨1, _⟩ => ⟨S16x4352, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S8x16x256, .f32⟩
  | .local _ .vmem, ⟨11, _⟩ => ⟨S8x16x640, .f32⟩
  | .local _ .vmem, ⟨12, _⟩ => ⟨S16x128, .i32⟩
  | .local _ .vmem, ⟨13, _⟩ => ⟨S16x512, .f32⟩
  | .local _ .vmem, ⟨14, _⟩ => ⟨S16x512, .f32⟩
  | .local _ .vmem, ⟨15, _⟩ => ⟨S16x512, .f32⟩
  | .local _ .vmem, ⟨16, _⟩ => ⟨S16x512, .f32⟩
  | .local _ .vmem, ⟨17, _⟩ => ⟨S16x128, .f32⟩
  | .local _ .vmem, ⟨18, _⟩ => ⟨S16x128, .f32⟩
  | .local _ .vmem, ⟨19, _⟩ => ⟨S16x128, .f32⟩
  | .local _ .vmem, ⟨20, _⟩ => ⟨S16x128, .f32⟩
  | .local _ .vmem, ⟨21, _⟩ => ⟨S16x512, .f32⟩
  | .local _ .vmem, ⟨22, _⟩ => ⟨S16x512, .f32⟩
  | .local _ .vmem, ⟨23, _⟩ => ⟨S16x512, .f32⟩
  | .local _ .vmem, ⟨24, _⟩ => ⟨S16x512, .f32⟩
  | .local _ .vmem, ⟨25, _⟩ => ⟨S256x128, .bf16⟩
  | .local _ .vmem, ⟨26, _⟩ => ⟨S256x128, .bf16⟩
  | .local _ .vmem, ⟨27, _⟩ => ⟨S640x512, .bf16⟩
  | .local _ .vmem, ⟨28, _⟩ => ⟨S640x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_call0_v0 : Ref sig .tc := ⟨.hbm, 9, rfl⟩
abbrev main_v0 : Ref sig .tc := ⟨.hbm, 10, rfl⟩
abbrev main_cst_0 : Ref sig .tc := ⟨.hbm, 11, rfl⟩
abbrev main_call1_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v3_3 : Ref sig .tc := ⟨.hbm, 19, rfl⟩
abbrev main_v3_4 : Ref sig .tc := ⟨.hbm, 20, rfl⟩
abbrev main_v3_5 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x4352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x16x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AttnRefIdeal.lean ====
abbrev S8 : Shape := ⟨1, ![8]⟩
abbrev S128x4352 : Shape := ⟨2, ![128, 4352]⟩
abbrev S8x128x128 : Shape := ⟨3, ![8, 128, 128]⟩
abbrev S8x512x512 : Shape := ⟨3, ![8, 512, 512]⟩
abbrev S8x16x144 : Shape := ⟨3, ![8, 16, 144]⟩
abbrev S8x16x528 : Shape := ⟨3, ![8, 16, 528]⟩
abbrev S8x16x4352 : Shape := ⟨3, ![8, 16, 4352]⟩
abbrev S8x16x2304 : Shape := ⟨3, ![8, 16, 2304]⟩
abbrev S8x16x512 : Shape := ⟨3, ![8, 16, 512]⟩
abbrev S8x16x128 : Shape := ⟨3, ![8, 16, 128]⟩
abbrev S8x16x2x4x64 : Shape := ⟨5, ![8, 16, 2, 4, 64]⟩
abbrev S8x128x2x64 : Shape := ⟨4, ![8, 128, 2, 64]⟩
abbrev S8x16x2x64 : Shape := ⟨4, ![8, 16, 2, 64]⟩
abbrev S8x144x2x64 : Shape := ⟨4, ![8, 144, 2, 64]⟩
abbrev S2x4x16x144 : Shape := ⟨4, ![2, 4, 16, 144]⟩
abbrev S2x4 : Shape := ⟨2, ![2, 4]⟩
abbrev S8x2x144x16x4 : Shape := ⟨5, ![8, 2, 144, 16, 4]⟩
abbrev S8x2x4x16x144 : Shape := ⟨5, ![8, 2, 4, 16, 144]⟩
abbrev S_ : Shape := ⟨0, ![]⟩
abbrev S1x2x4x16x144 : Shape := ⟨5, ![1, 2, 4, 16, 144]⟩
abbrev S8x2x4x16 : Shape := ⟨4, ![8, 2, 4, 16]⟩
abbrev S8x2x4x16x1 : Shape := ⟨5, ![8, 2, 4, 16, 1]⟩
abbrev S1x2x4x1x1 : Shape := ⟨5, ![1, 2, 4, 1, 1]⟩
abbrev S8x2x64x4x16 : Shape := ⟨5, ![8, 2, 64, 4, 16]⟩
abbrev S8x16x8x1x64 : Shape := ⟨5, ![8, 16, 8, 1, 64]⟩
abbrev S8x512x8x64 : Shape := ⟨4, ![8, 512, 8, 64]⟩
abbrev S8x16x8x64 : Shape := ⟨4, ![8, 16, 8, 64]⟩
abbrev S8x528x8x64 : Shape := ⟨4, ![8, 528, 8, 64]⟩
abbrev S8x1x16x528 : Shape := ⟨4, ![8, 1, 16, 528]⟩
abbrev S8x8x528x16x1 : Shape := ⟨5, ![8, 8, 528, 16, 1]⟩
abbrev S8x8x1x16x528 : Shape := ⟨5, ![8, 8, 1, 16, 528]⟩
abbrev S1x8x1x16x528 : Shape := ⟨5, ![1, 8, 1, 16, 528]⟩
abbrev S8x8x1x16 : Shape := ⟨4, ![8, 8, 1, 16]⟩
abbrev S8x8x1x16x1 : Shape := ⟨5, ![8, 8, 1, 16, 1]⟩
abbrev S8x8x64x1x16 : Shape := ⟨5, ![8, 8, 64, 1, 16]⟩
abbrev S128x512 : Shape := ⟨2, ![128, 512]⟩
abbrev S128x128 : Shape := ⟨2, ![128, 128]⟩

abbrev nBuf : Space → Nat
  | .hbm => 88
  | .vmem => 0
  | .smem => 0
  | _ => 0

abbrev bufTy : (tb : Table) → Fin (tcTables nBuf tb) → BufTy
  | .hbm, ⟨0, _⟩ => ⟨S8, .f32⟩
  | .hbm, ⟨1, _⟩ => ⟨S128x4352, .f32⟩
  | .hbm, ⟨2, _⟩ => ⟨S8x128x128, .f32⟩
  | .hbm, ⟨3, _⟩ => ⟨S8x128x128, .f32⟩
  | .hbm, ⟨4, _⟩ => ⟨S8x512x512, .f32⟩
  | .hbm, ⟨5, _⟩ => ⟨S8x512x512, .f32⟩
  | .hbm, ⟨6, _⟩ => ⟨S8x16x144, .f32⟩
  | .hbm, ⟨7, _⟩ => ⟨S8x16x528, .f32⟩
  | .hbm, ⟨8, _⟩ => ⟨S8x16x4352, .f32⟩
  | .hbm, ⟨9, _⟩ => ⟨S8x16x2304, .f32⟩
  | .hbm, ⟨10, _⟩ => ⟨S8x16x512, .f32⟩
  | .hbm, ⟨11, _⟩ => ⟨S8x16x128, .f32⟩
  | .hbm, ⟨12, _⟩ => ⟨S8x16x128, .f32⟩
  | .hbm, ⟨13, _⟩ => ⟨S8x16x512, .f32⟩
  | .hbm, ⟨14, _⟩ => ⟨S8x16x512, .f32⟩
  | .hbm, ⟨15, _⟩ => ⟨S8x16x512, .f32⟩
  | .hbm, ⟨16, _⟩ => ⟨S8x16x2x4x64, .f32⟩
  | .hbm, ⟨17, _⟩ => ⟨S8x128x2x64, .f32⟩
  | .hbm, ⟨18, _⟩ => ⟨S8x16x2x64, .f32⟩
  | .hbm, ⟨19, _⟩ => ⟨S8x144x2x64, .f32⟩
  | .hbm, ⟨20, _⟩ => ⟨S8x128x2x64, .f32⟩
  | .hbm, ⟨21, _⟩ => ⟨S8x16x2x64, .f32⟩
  | .hbm, ⟨22, _⟩ => ⟨S8x144x2x64, .f32⟩
  | .hbm, ⟨23, _⟩ => ⟨S2x4x16x144, .f32⟩
  | .hbm, ⟨24, _⟩ => ⟨S2x4, .f32⟩
  | .hbm, ⟨25, _⟩ => ⟨S8x2x144x16x4, .f32⟩
  | .hbm, ⟨26, _⟩ => ⟨S8x2x4x16x144, .f32⟩
  | .hbm, ⟨27, _⟩ => ⟨S_, .f32⟩
  | .hbm, ⟨28, _⟩ => ⟨S8x2x4x16x144, .f32⟩
  | .hbm, ⟨29, _⟩ => ⟨S8x2x4x16x144, .f32⟩
  | .hbm, ⟨30, _⟩ => ⟨S1x2x4x16x144, .f32⟩
  | .hbm, ⟨31, _⟩ => ⟨S8x2x4x16x144, .f32⟩
  | .hbm, ⟨32, _⟩ => ⟨S8x2x4x16x144, .f32⟩
  | .hbm, ⟨33, _⟩ => ⟨S_, .f32⟩
  | .hbm, ⟨34, _⟩ => ⟨S8x2x4x16, .f32⟩
  | .hbm, ⟨35, _⟩ => ⟨S8x2x4x16x1, .f32⟩
  | .hbm, ⟨36, _⟩ => ⟨S1x2x4x1x1, .f32⟩
  | .hbm, ⟨37, _⟩ => ⟨S8x2x4x16x1, .f32⟩
  | .hbm, ⟨38, _⟩ => ⟨S8x2x4x16x1, .f32⟩
  | .hbm, ⟨39, _⟩ => ⟨S8x2x4x16x144, .f32⟩
  | .hbm, ⟨40, _⟩ => ⟨S8x2x4x16x144, .f32⟩
  | .hbm, ⟨41, _⟩ => ⟨S8x2x4x16x144, .f32⟩
  | .hbm, ⟨42, _⟩ => ⟨S_, .f32⟩
  | .hbm, ⟨43, _⟩ => ⟨S8x2x4x16, .f32⟩
  | .hbm, ⟨44, _⟩ => ⟨S8x2x4x16x1, .f32⟩
  | .hbm, ⟨45, _⟩ => ⟨S8x2x4x16x1, .f32⟩
  | .hbm, ⟨46, _⟩ => ⟨S8x2x4x16x1, .f32⟩
  | .hbm, ⟨47, _⟩ => ⟨S8x2x4x16x1, .f32⟩
  | .hbm, ⟨48, _⟩ => ⟨S8x2x4x16x1, .f32⟩
  | .hbm, ⟨49, _⟩ => ⟨S8x2x4x16x144, .f32⟩
  | .hbm, ⟨50, _⟩ => ⟨S8x2x4x16x144, .f32⟩
  | .hbm, ⟨51, _⟩ => ⟨S8x2x64x4x16, .f32⟩
  | .hbm, ⟨52, _⟩ => ⟨S8x16x2x4x64, .f32⟩
  | .hbm, ⟨53, _⟩ => ⟨S8x16x8x1x64, .f32⟩
  | .hbm, ⟨54, _⟩ => ⟨S8x512x8x64, .f32⟩
  | .hbm, ⟨55, _⟩ => ⟨S8x16x8x64, .f32⟩
  | .hbm, ⟨56, _⟩ => ⟨S8x528x8x64, .f32⟩
  | .hbm, ⟨57, _⟩ => ⟨S8x512x8x64, .f32⟩
  | .hbm, ⟨58, _⟩ => ⟨S8x16x8x64, .f32⟩
  | .hbm, ⟨59, _⟩ => ⟨S8x528x8x64, .f32⟩
  | .hbm, ⟨60, _⟩ => ⟨S8x1x16x528, .f32⟩
  | .hbm, ⟨61, _⟩ => ⟨S8x8x528x16x1, .f32⟩
  | .hbm, ⟨62, _⟩ => ⟨S8x8x1x16x528, .f32⟩
  | .hbm, ⟨63, _⟩ => ⟨S_, .f32⟩
  | .hbm, ⟨64, _⟩ => ⟨S8x8x1x16x528, .f32⟩
  | .hbm, ⟨65, _⟩ => ⟨S8x8x1x16x528, .f32⟩
  | .hbm, ⟨66, _⟩ => ⟨S1x8x1x16x528, .f32⟩
  | .hbm, ⟨67, _⟩ => ⟨S8x8x1x16x528, .f32⟩
  | .hbm, ⟨68, _⟩ => ⟨S8x8x1x16x528, .f32⟩
  | .hbm, ⟨69, _⟩ => ⟨S_, .f32⟩
  | .hbm, ⟨70, _⟩ => ⟨S8x8x1x16, .f32⟩
  | .hbm, ⟨71, _⟩ => ⟨S8x8x1x16x1, .f32⟩
  | .hbm, ⟨72, _⟩ => ⟨S8x8x1x16x528, .f32⟩
  | .hbm, ⟨73, _⟩ => ⟨S8x8x1x16x528, .f32⟩
  | .hbm, ⟨74, _⟩ => ⟨S8x8x1x16x528, .f32⟩
  | .hbm, ⟨75, _⟩ => ⟨S_, .f32⟩
  | .hbm, ⟨76, _⟩ => ⟨S8x8x1x16, .f32⟩
  | .hbm, ⟨77, _⟩ => ⟨S8x8x1x16x1, .f32⟩
  | .hbm, ⟨78, _⟩ => ⟨S8x8x1x16x528, .f32⟩
  | .hbm, ⟨79, _⟩ => ⟨S8x8x1x16x528, .f32⟩
  | .hbm, ⟨80, _⟩ => ⟨S8x8x64x1x16, .f32⟩
  | .hbm, ⟨81, _⟩ => ⟨S8x16x8x1x64, .f32⟩
  | .hbm, ⟨82, _⟩ => ⟨S128x512, .f32⟩
  | .hbm, ⟨83, _⟩ => ⟨S128x512, .f32⟩
  | .hbm, ⟨84, _⟩ => ⟨S128x128, .f32⟩
  | .hbm, ⟨85, _⟩ => ⟨S128x128, .f32⟩
  | .hbm, ⟨86, _⟩ => ⟨S128x512, .f32⟩
  | .hbm, ⟨87, _⟩ => ⟨S128x512, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_2 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_3 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_4 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩

abbrev nD : Nat := 1
abbrev τ : Topo := Topo.v7x

variable {F : FTy → Type} [FloatOps F]
-- ==== Proj.lean ====
abbrev S128x1024 : Shape := ⟨2, ![128, 1024]⟩
abbrev S1x1024 : Shape := ⟨2, ![1, 1024]⟩
abbrev S1024x4352 : Shape := ⟨2, ![1024, 4352]⟩
abbrev S128x4352 : Shape := ⟨2, ![128, 4352]⟩
abbrev S1024x2176 : Shape := ⟨2, ![1024, 2176]⟩
abbrev S128x2176 : Shape := ⟨2, ![128, 2176]⟩
abbrev S128 : Shape := ⟨1, ![128]⟩
abbrev S128x1 : Shape := ⟨2, ![128, 1]⟩

abbrev nBuf : Space → Nat
  | .hbm => 5
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S1024x4352, .f32⟩
  | .hbm, ⟨3, _⟩ => ⟨S1024x4352, .bf16⟩
  | .hbm, ⟨4, _⟩ => ⟨S128x4352, .f32⟩
  | .local _ .vmem, ⟨0, _⟩ => ⟨S128x1024, .f32⟩
  | .local _ .vmem, ⟨1, _⟩ => ⟨S1x1024, .f32⟩
  | .local _ .vmem, ⟨2, _⟩ => ⟨S1024x2176, .bf16⟩
  | .local _ .vmem, ⟨3, _⟩ => ⟨S1024x2176, .bf16⟩
  | .local _ .vmem, ⟨4, _⟩ => ⟨S128x2176, .f32⟩
  | .local _ .vmem, ⟨5, _⟩ => ⟨S128x2176, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S128x1024 : Shape := ⟨2, ![128, 1024]⟩
abbrev S1x1024 : Shape := ⟨2, ![1, 1024]⟩
abbrev S1024x4352 : Shape := ⟨2, ![1024, 4352]⟩
abbrev S1024 : Shape := ⟨1, ![1024]⟩
abbrev S_ : Shape := ⟨0, ![]⟩
abbrev S128 : Shape := ⟨1, ![128]⟩
abbrev S128x1 : Shape := ⟨2, ![128, 1]⟩
abbrev S128x4352 : Shape := ⟨2, ![128, 4352]⟩

abbrev nBuf : Space → Nat
  | .hbm => 21
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S1024x4352, .f32⟩
  | .hbm, ⟨3, _⟩ => ⟨S1024, .f32⟩
  | .hbm, ⟨4, _⟩ => ⟨S128x1024, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x1024, .f32⟩
  | .hbm, ⟨16, _⟩ => ⟨S128x1024, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S128x4352, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Tail.lean ====
abbrev S128x1024 : Shape := ⟨2, ![128, 1024]⟩
abbrev S128x512 : Shape := ⟨2, ![128, 512]⟩
abbrev S128x4352 : Shape := ⟨2, ![128, 4352]⟩
abbrev S512x1024 : Shape := ⟨2, ![512, 1024]⟩
abbrev S1024x1024 : Shape := ⟨2, ![1024, 1024]⟩
abbrev S1x1024 : Shape := ⟨2, ![1, 1024]⟩
abbrev S8x2x3072 : Shape := ⟨3, ![8, 2, 3072]⟩
abbrev S1024x6144 : Shape := ⟨2, ![1024, 6144]⟩
abbrev S3x3072 : Shape := ⟨2, ![3, 3072]⟩
abbrev S1x3072 : Shape := ⟨2, ![1, 3072]⟩
abbrev S3072x1024 : Shape := ⟨2, ![3072, 1024]⟩
abbrev S_ : Shape := ⟨0, ![]⟩
abbrev S8x16x3072 : Shape := ⟨3, ![8, 16, 3072]⟩
abbrev S128x3072 : Shape := ⟨2, ![128, 3072]⟩
abbrev S16x128 : Shape := ⟨2, ![16, 128]⟩
abbrev S128x1536 : Shape := ⟨2, ![128, 1536]⟩
abbrev S1024x1536 : Shape := ⟨2, ![1024, 1536]⟩
abbrev S3x1536 : Shape := ⟨2, ![3, 1536]⟩
abbrev S1x1536 : Shape := ⟨2, ![1, 1536]⟩
abbrev S1536x1024 : Shape := ⟨2, ![1536, 1024]⟩
abbrev S128 : Shape := ⟨1, ![128]⟩
abbrev S128x1 : Shape := ⟨2, ![128, 1]⟩
abbrev S1024x512 : Shape := ⟨2, ![1024, 512]⟩
abbrev S3x512 : Shape := ⟨2, ![3, 512]⟩
abbrev S1x512 : Shape := ⟨2, ![1, 512]⟩
abbrev S16x384 : Shape := ⟨2, ![16, 384]⟩
abbrev S16x512 : Shape := ⟨2, ![16, 512]⟩
abbrev S112x512 : Shape := ⟨2, ![112, 512]⟩

abbrev nBuf : Space → Nat
  | .hbm => 26
  | .vmem => 29
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x512, .f32⟩
  | .hbm, ⟨3, _⟩ => ⟨S128x4352, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8x2x3072, .f32⟩
  | .hbm, ⟨11, _⟩ => ⟨S1024x6144, .bf16⟩
  | .hbm, ⟨12, _⟩ => ⟨S3x3072, .f32⟩
  | .hbm, ⟨13, _⟩ => ⟨S1x3072, .f32⟩
  | .hbm, ⟨14, _⟩ => ⟨S3072x1024, .bf16⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S_, .i32⟩
  | .hbm, ⟨19, _⟩ => ⟨S_, .f32⟩
  | .hbm, ⟨20, _⟩ => ⟨S8x16x3072, .f32⟩
  | .hbm, ⟨21, _⟩ => ⟨S128x3072, .f32⟩
  | .hbm, ⟨22, _⟩ => ⟨S_, .i32⟩
  | .hbm, ⟨23, _⟩ => ⟨S16x128, .i32⟩
  | .hbm, ⟨24, _⟩ => ⟨S128x1024, .f32⟩
  | .hbm, ⟨25, _⟩ => ⟨S128x3072, .f32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S128x4352, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S16x128, .i32⟩
  | .local _ .vmem, ⟨11, _⟩ => ⟨S128x1536, .f32⟩
  | .local _ .vmem, ⟨12, _⟩ => ⟨S128x1536, .f32⟩
  | .local _ .vmem, ⟨13, _⟩ => ⟨S1024x1536, .bf16⟩
  | .local _ .vmem, ⟨14, _⟩ => ⟨S1024x1536, .bf16⟩
  | .local _ .vmem, ⟨15, _⟩ => ⟨S1024x1536, .bf16⟩
  | .local _ .vmem, ⟨16, _⟩ => ⟨S1024x1536, .bf16⟩
  | .local _ .vmem, ⟨17, _⟩ => ⟨S3x1536, .f32⟩
  | .local _ .vmem, ⟨18, _⟩ => ⟨S3x1536, .f32⟩
  | .local _ .vmem, ⟨19, _⟩ => ⟨S1x1536, .f32⟩
  | .local _ .vmem, ⟨20, _⟩ => ⟨S1x1536, .f32⟩
  | .local _ .vmem, ⟨21, _⟩ => ⟨S1536x1024, .bf16⟩
  | .local _ .vmem, ⟨22, _⟩ => ⟨S1536x1024, .bf16⟩
  | .local _ .vmem, ⟨23, _⟩ => ⟨S128x1024, .f32⟩
  | .local _ .vmem, ⟨24, _⟩ => ⟨S128x1536, .f32⟩
  | .local _ .vmem, ⟨25, _⟩ => ⟨S128x1536, .f32⟩
  | .local _ .vmem, ⟨26, _⟩ => ⟨S128x1024, .f32⟩
  | .local _ .vmem, ⟨27, _⟩ => ⟨S128x1024, .bf16⟩
  | .local _ .vmem, ⟨28, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6_0 : Ref sig .tc := ⟨.hbm, 24, rfl⟩
abbrev main_v6_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32_87 : BitVec 32 := 1#32
  let v185 : BitVec 1 := Scalar.cmpi .eq arg0 c1_i32_87
  let v186 : BitVec 32 := Scalar.extui v185
  let c0_i32_88 : BitVec 32 := 0#32
  let v187 : BitVec 1 := Scalar.cmpi .ne v186 c0_i32_88
  v187

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1536x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S128x1536 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== TailRefIdeal.lean ====
abbrev S128x1024 : Shape := ⟨2, ![128, 1024]⟩
abbrev S128x512 : Shape := ⟨2, ![128, 512]⟩
abbrev S128x4352 : Shape := ⟨2, ![128, 4352]⟩
abbrev S512x1024 : Shape := ⟨2, ![512, 1024]⟩
abbrev S1024x1024 : Shape := ⟨2, ![1024, 1024]⟩
abbrev S1x1024 : Shape := ⟨2, ![1, 1024]⟩
abbrev S8x2x3072 : Shape := ⟨3, ![8, 2, 3072]⟩
abbrev S1024x6144 : Shape := ⟨2, ![1024, 6144]⟩
abbrev S3x3072 : Shape := ⟨2, ![3, 3072]⟩
abbrev S1x3072 : Shape := ⟨2, ![1, 3072]⟩
abbrev S3072x1024 : Shape := ⟨2, ![3072, 1024]⟩
abbrev S_ : Shape := ⟨0, ![]⟩
abbrev S1024 : Shape := ⟨1, ![1024]⟩
abbrev S128 : Shape := ⟨1, ![128]⟩
abbrev S128x1 : Shape := ⟨2, ![128, 1]⟩
abbrev S128x6144 : Shape := ⟨2, ![128, 6144]⟩
abbrev S128x3072 : Shape := ⟨2, ![128, 3072]⟩
abbrev S8x16x3072 : Shape := ⟨3, ![8, 16, 3072]⟩
abbrev S8x18x3072 : Shape := ⟨3, ![8, 18, 3072]⟩
abbrev S3072 : Shape := ⟨1, ![3072]⟩
abbrev S1x1x3072 : Shape := ⟨3, ![1, 1, 3072]⟩

abbrev nBuf : Space → Nat
  | .hbm => 143
  | .vmem => 0
  | .smem => 0
  | _ => 0

abbrev hbmTy0_0 (i : Nat) : BufTy := match i % 128 with
  | 0 => ⟨S128x1024, .f32⟩
  | 1 => ⟨S128x512, .f32⟩
  | 2 => ⟨S128x512, .f32⟩
  | 3 => ⟨S128x4352, .f32⟩
  | 4 => ⟨S512x1024, .f32⟩
  | 5 => ⟨S512x1024, .f32⟩
  | 6 => ⟨S1024x1024, .f32⟩
  | 7 => ⟨S1x1024, .f32⟩
  | 8 => ⟨S1x1024, .f32⟩
  | 9 => ⟨S1x1024, .f32⟩
  | 10 => ⟨S8x2x3072, .f32⟩
  | 11 => ⟨S1024x6144, .bf16⟩
  | 12 => ⟨S3x3072, .f32⟩
  | 13 => ⟨S1x3072, .f32⟩
  | 14 => ⟨S3072x1024, .bf16⟩
  | 15 => ⟨S128x1024, .f32⟩
  | 16 => ⟨S128x1024, .f32⟩
  | 17 => ⟨S128x1024, .f32⟩
  | 18 => ⟨S128x1024, .f32⟩
  | 19 => ⟨S_, .f32⟩
  | 20 => ⟨S128x1024, .f32⟩
  | 21 => ⟨S128x1024, .f32⟩
  | 22 => ⟨S_, .f32⟩
  | 23 => ⟨S128x1024, .f32⟩
  | 24 => ⟨S128x1024, .f32⟩
  | 25 => ⟨S128x1024, .f32⟩
  | 26 => ⟨S128x1024, .f32⟩
  | 27 => ⟨S128x1024, .f32⟩
  | 28 => ⟨S128x1024, .f32⟩
  | 29 => ⟨S_, .f32⟩
  | 30 => ⟨S128x1024, .f32⟩
  | 31 => ⟨S128x1024, .f32⟩
  | 32 => ⟨S_, .f32⟩
  | 33 => ⟨S128x1024, .f32⟩
  | 34 => ⟨S128x1024, .f32⟩
  | 35 => ⟨S128x1024, .f32⟩
  | 36 => ⟨S128x1024, .f32⟩
  | 37 => ⟨S128x1024, .f32⟩
  | 38 => ⟨S128x1024, .f32⟩
  | 39 => ⟨S1024, .f32⟩
  | 40 => ⟨S128x1024, .f32⟩
  | 41 => ⟨S_, .f32⟩
  | 42 => ⟨S128, .f32⟩
  | 43 => ⟨S128x1, .f32⟩
  | 44 => ⟨S_, .f32⟩
  | 45 => ⟨S128x1, .f32⟩
  | 46 => ⟨S128x1, .f32⟩
  | 47 => ⟨S_, .f32⟩
  | 48 => ⟨S128x1, .f32⟩
  | 49 => ⟨S128x1, .f32⟩
  | 50 => ⟨S128x1, .f32⟩
  | 51 => ⟨S128x1024, .f32⟩
  | 52 => ⟨S128x1024, .f32⟩
  | 53 => ⟨S1x1024, .f32⟩
  | 54 => ⟨S128x1024, .f32⟩
  | 55 => ⟨S128x1024, .f32⟩
  | 56 => ⟨S128x1024, .f32⟩
  | 57 => ⟨S1024, .f32⟩
  | 58 => ⟨S128x1024, .f32⟩
  | 59 => ⟨S_, .f32⟩
  | 60 => ⟨S128, .f32⟩
  | 61 => ⟨S128x1, .f32⟩
  | 62 => ⟨S_, .f32⟩
  | 63 => ⟨S128x1, .f32⟩
  | 64 => ⟨S128x1, .f32⟩
  | 65 => ⟨S_, .f32⟩
  | 66 => ⟨S128x1, .f32⟩
  | 67 => ⟨S128x1, .f32⟩
  | 68 => ⟨S128x1, .f32⟩
  | 69 => ⟨S128x1024, .f32⟩
  | 70 => ⟨S128x1024, .f32⟩
  | 71 => ⟨S1x1024, .f32⟩
  | 72 => ⟨S128x1024, .f32⟩
  | 73 => ⟨S128x1024, .f32⟩
  | 74 => ⟨S1024x6144, .f32⟩
  | 75 => ⟨S128x6144, .f32⟩
  | 76 => ⟨S128x3072, .f32⟩
  | 77 => ⟨S128x3072, .f32⟩
  | 78 => ⟨S8x16x3072, .f32⟩
  | 79 => ⟨S8x18x3072, .f32⟩
  | 80 => ⟨S3072, .f32⟩
  | 81 => ⟨S1x3072, .f32⟩
  | 82 => ⟨S3072, .f32⟩
  | 83 => ⟨S8x16x3072, .f32⟩
  | 84 => ⟨S1x1x3072, .f32⟩
  | 85 => ⟨S8x16x3072, .f32⟩
  | 86 => ⟨S8x16x3072, .f32⟩
  | 87 => ⟨S1x1x3072, .f32⟩
  | 88 => ⟨S8x16x3072, .f32⟩
  | 89 => ⟨S8x16x3072, .f32⟩
  | 90 => ⟨S1x3072, .f32⟩
  | 91 => ⟨S3072, .f32⟩
  | 92 => ⟨S8x16x3072, .f32⟩
  | 93 => ⟨S1x1x3072, .f32⟩
  | 94 => ⟨S8x16x3072, .f32⟩
  | 95 => ⟨S8x16x3072, .f32⟩
  | 96 => ⟨S8x16x3072, .f32⟩
  | 97 => ⟨S1x3072, .f32⟩
  | 98 => ⟨S3072, .f32⟩
  | 99 => ⟨S8x16x3072, .f32⟩
  | 100 => ⟨S1x1x3072, .f32⟩
  | 101 => ⟨S8x16x3072, .f32⟩
  | 102 => ⟨S8x16x3072, .f32⟩
  | 103 => ⟨S8x16x3072, .f32⟩
  | 104 => ⟨S8x16x3072, .f32⟩
  | 105 => ⟨S8x16x3072, .f32⟩
  | 106 => ⟨S_, .f32⟩
  | 107 => ⟨S8x16x3072, .f32⟩
  | 108 => ⟨S8x16x3072, .f32⟩
  | 109 => ⟨S8x16x3072, .f32⟩
  | 110 => ⟨S_, .f32⟩
  | 111 => ⟨S8x16x3072, .f32⟩
  | 112 => ⟨S8x16x3072, .f32⟩
  | 113 => ⟨S8x16x3072, .f32⟩
  | 114 => ⟨S_, .f32⟩
  | 115 => ⟨S8x16x3072, .f32⟩
  | 116 => ⟨S8x16x3072, .f32⟩
  | 117 => ⟨S_, .f32⟩
  | 118 => ⟨S8x16x3072, .f32⟩
  | 119 => ⟨S8x16x3072, .f32⟩
  | 120 => ⟨S8x16x3072, .f32⟩
  | 121 => ⟨S128x3072, .f32⟩
  | 122 => ⟨S128x3072, .f32⟩
  | 123 => ⟨S3072x1024, .f32⟩
  | 124 => ⟨S128x1024, .f32⟩
  | 125 => ⟨S1024, .f32⟩
  | 126 => ⟨S128x1024, .f32⟩
  | 127 => ⟨S_, .f32⟩
  | _ => ⟨S128x1024, .f32⟩

abbrev hbmTy0_1 (i : Nat) : BufTy := match i % 128 with
  | 0 => ⟨S128, .f32⟩
  | 1 => ⟨S128x1, .f32⟩
  | 2 => ⟨S_, .f32⟩
  | 3 => ⟨S128x1, .f32⟩
  | 4 => ⟨S128x1, .f32⟩
  | 5 => ⟨S_, .f32⟩
  | 6 => ⟨S128x1, .f32⟩
  | 7 => ⟨S128x1, .f32⟩
  | 8 => ⟨S128x1, .f32⟩
  | 9 => ⟨S128x1024, .f32⟩
  | 10 => ⟨S128x1024, .f32⟩
  | 11 => ⟨S1x1024, .f32⟩
  | 12 => ⟨S128x1024, .f32⟩
  | 13 => ⟨S128x1024, .f32⟩
  | 14 => ⟨S128x1024, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_9 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_10 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_11 : Ref sig .tc := ⟨.hbm, 114, rfl⟩
abbrev main_v87 : Ref sig .tc := ⟨.hbm, 115, rfl⟩
abbrev main_v88 : Ref sig .tc := ⟨.hbm, 116, rfl⟩
abbrev main_cst_12 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_13 : Ref sig .tc := ⟨.hbm, 127, rfl⟩
abbrev main_v98 : Ref sig .tc := ⟨.hbm, 128, rfl⟩
abbrev main_v99 : Ref sig .tc := ⟨.hbm, 129, rfl⟩
abbrev main_cst_14 : Ref sig .tc := ⟨.hbm, 130, rfl⟩
abbrev main_v100 : Ref sig .tc := ⟨.hbm, 131, rfl⟩
abbrev main_v101 : Ref sig .tc := ⟨.hbm, 132, rfl⟩
abbrev main_cst_15 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩

abbrev nD : Nat := 1
abbrev τ : Topo := Topo.v7x

variable {F : FTy → Type} [FloatOps F]
-- ==== Proof.FfnTile.lean ====
module
public import proofs.«01_k».proof.Proof.Gen.FfnIdeal.Value
public import Idealize.ShloMosaic.Lib.Pointwise
public import Idealize.ShloMosaic.Lib.WordCmp
public import Idealize.ShloMosaic.Lib.Pipeline.ValueKit
public import Idealize.ShloMosaic.Lib.Pipeline.ReadBack
@[expose] public section
set_option maxRecDepth 16384
noncomputable section
namespace Cert.FfnTile
open Idealize.ShloMosaic Idealize.ShloMosaic.TcCoe Idealize.SL.Sem Cert.FfnIdeal Cert.FfnIdeal.Gen

/-! # One tile of the feed-forward block, operation by operation -/

/-- The factor of the root-mean-square norm of a row of 1024 numbers. -/
def rmsS (v : Fin 1024 → EReal) : EReal :=
  Ideal.rsqrt (Ideal.div (∑ k, v k * v k) (Ideal.ofBits .f32 0x44800000#32) + Ideal.ofBits .f32 0x358637BD#32)

/-- A row normalised and scaled. -/
def hS (v g : Fin 1024 → EReal) (k : Fin 1024) : EReal := v k * rmsS v * g k

/-- The depthwise convolution of width three at one position. -/
def convS (w0 w1 w2 b p2 p1 p0 : EReal) : EReal := b + w0 * p2 + w1 * p1 + w2 * p0

/-- The tanh form of the GELU, without its leading factor. -/
def cdfS (x : EReal) : EReal :=
  Ideal.ofBits .f32 0x3F000000#32 * (1 + Ideal.tanh (Ideal.ofBits .f32 0x3F4C422A#32 * (x + Ideal.ofBits .f32 0x3D372713#32 * (x * (x * x)))))

/-- The tanh form of the GELU. -/
def geluS (x : EReal) : EReal := x * cdfS x

/-- The normalised tile. -/
def hT (x : Vec Ideal S1x512x1024 .f32) (g : Vec Ideal S1x1024 .f32) : FVec Ideal S512x1024 .bf16 :=
  fun j => hS (fun k => x (ix3 0 (j 0) k)) (fun k => g (ix2 0 k)) (j 1)

/-- The tile through one block of columns of the up projection. -/
def mmT (H : FVec Ideal S512x1024 .bf16) (W : Vec Ideal S1024x512 .bf16) : FVec Ideal S512x512 .f32 :=
  fun j => ∑ k : Fin 1024, H (ix2 (j 0) k) * W (ix2 k (j 1))

/-- The tile one row earlier, its first row from the rows carried over. -/
def sh1T (u : FVec Ideal S512x512 .f32) (p : Vec Ideal S1x8x512 .f32) : FVec Ideal S512x512 .f32 :=
  fun j => if (j 0 : ℕ) = 0 then p (ix3 0 7 (j 1)) else u (ix2 ⟨((j 0 : ℕ) + 512 - 1) % 512, Nat.mod_lt _ (by norm_num)⟩ (j 1))

/-- The tile two rows earlier, its first two rows from the rows carried over. -/
def sh2T (u : FVec Ideal S512x512 .f32) (p : Vec Ideal S1x8x512 .f32) : FVec Ideal S512x512 .f32 :=
  fun j => if (j 0 : ℕ) = 0 then p (ix3 0 6 (j 1)) else if (j 0 : ℕ) = 1 then p (ix3 0 7 (j 1))
    else u (ix2 ⟨((j 0 : ℕ) + 512 - 2) % 512, Nat.mod_lt _ (by norm_num)⟩ (j 1))

/-- Convolution, GELU and gate of one block of columns. -/
def actT (u s1 s2 gt : FVec Ideal S512x512 .f32) (cw : Vec Ideal S3x512 .f32) (cb : Vec Ideal S1x512 .f32) : FVec Ideal S512x512 .f32 :=
  fun j => geluS (convS (cw (ix2 0 (j 1))) (cw (ix2 1 (j 1))) (cw (ix2 2 (j 1))) (cb (ix2 0 (j 1))) (s2 j) (s1 j) (u j)) * gt j

/-- The accumulated down projection after one more block of rows. -/
def accT (acc : FVec Ideal S512x1024 .f32) (a : FVec Ideal S512x512 .f32) (W : Vec Ideal S512x1024 .bf16) : FVec Ideal S512x1024 .f32 :=
  fun j => acc j + ∑ f : Fin 512, a (ix2 (j 0) f) * W (ix2 f (j 1))

/-- The residual plus the normalised sum. -/
def finT (x : Vec Ideal S1x512x1024 .f32) (acc : FVec Ideal S512x1024 .f32) (g : Vec Ideal S1x1024 .f32) : FVec Ideal S1x512x1024 .f32 :=
  fun j => x (ix3 0 (j 1) (j 2)) + hS (fun d => acc (ix2 (j 1) d)) (fun d => g (ix2 0 d)) (j 2)

/-- The row numbers of a tile. -/
def iotaT : IVec S512x512 32 := iota Kind.tc S512x512 32 [0] iota_S512x512_d0_w32

theorem sel_eq {α : Type} (n k : ℕ) (hn : n < 2 ^ 32) (hk : k < 2 ^ 32) (a b : α) :
    Scalar.select (IntOp.cmpi CmpIPredicate.eq (BitVec.ofNat 32 n) (BitVec.ofNat 32 k)) a b = if n = k then a else b := by
  have e : (BitVec.ofNat 32 n = BitVec.ofNat 32 k) ↔ n = k := by
    constructor
    · intro h
      have := congrArg BitVec.toNat h
      rw [BitVec.toNat_ofNat, BitVec.toNat_ofNat, Nat.mod_eq_of_lt hn, Nat.mod_eq_of_lt hk] at this
      exact this
    · rintro rfl; rfl
  by_cases h : n = k
  · subst h; simp [Scalar.select, IntOp.cmpi]
  · have : ¬ (BitVec.ofNat 32 n = BitVec.ofNat 32 k) := fun h' => h (e.1 h')
    have hb : (BitVec.ofNat 32 n == BitVec.ofNat 32 k) = false := by rw [beq_eq_false_iff_ne]; exact this
    simp [Scalar.select, IntOp.cmpi, h, hb]

/-- The normalised tile, of its operations. -/
theorem pay5_eq (x : Vec Ideal S1x512x1024 .f32) (g : Vec Ideal S1x1024 .f32) : k0_pay5 (F := Ideal) x g = hT x g := by
  funext j
  idx_vars j
  pointwise [iotaT, k0_pay5, k0_pay4, hT, hS, rmsS]

theorem mm8_eq (x : Vec Ideal S1x512x1024 .f32) (g : Vec Ideal S1x1024 .f32) (W : Vec Ideal S1024x512 .bf16) :
    k0_pay8 (F := Ideal) x g W = mmT (k0_pay5 x g) W := by
  funext j
  idx_vars j
  pointwise [iotaT, k0_pay8, mmT]

theorem mm9_eq (x : Vec Ideal S1x512x1024 .f32) (g : Vec Ideal S1x1024 .f32) (W : Vec Ideal S1024x512 .bf16) :
    k0_pay9 (F := Ideal) x g W = mmT (k0_pay5 x g) W := by
  funext j
  idx_vars j
  pointwise [iotaT, k0_pay9, mmT]

theorem mm10_eq (H : FVec Ideal S512x1024 .bf16) (W : Vec Ideal S1024x512 .bf16) : k0_pay10 H W = mmT H W := by
  funext j
  idx_vars j
  pointwise [iotaT, k0_pay10, mmT]

theorem mm11_eq (H : FVec Ideal S512x1024 .bf16) (W : Vec Ideal S1024x512 .bf16) : k0_pay11 H W = mmT H W := by
  funext j
  idx_vars j
  pointwise [iotaT, k0_pay11, mmT]

theorem mm12_eq (H : FVec Ideal S512x1024 .bf16) (W : Vec Ideal S1024x512 .bf16) : k0_pay12 H W = mmT H W := by
  funext j
  idx_vars j
  pointwise [iotaT, k0_pay12, mmT]

theorem mm13_eq (H : FVec Ideal S512x1024 .bf16) (W : Vec Ideal S1024x512 .bf16) : k0_pay13 H W = mmT H W := by
  funext j
  idx_vars j
  pointwise [iotaT, k0_pay13, mmT]

theorem mm14_eq (H : FVec Ideal S512x1024 .bf16) (W : Vec Ideal S1024x512 .bf16) : k0_pay14 H W = mmT H W := by
  funext j
  idx_vars j
  pointwise [iotaT, k0_pay14, mmT]

theorem mm15_eq (H : FVec Ideal S512x1024 .bf16) (W : Vec Ideal S1024x512 .bf16) : k0_pay15 H W = mmT H W := by
  funext j
  idx_vars j
  pointwise [iotaT, k0_pay15, mmT]

theorem mm23_eq (H : FVec Ideal S512x1024 .bf16) (W : Vec Ideal S1024x512 .bf16) : k0_pay23 H W = mmT H W := by
  funext j
  idx_vars j
  pointwise [iotaT, k0_pay23, mmT]

theorem mm24_eq (H : FVec Ideal S512x1024 .bf16) (W : Vec Ideal S1024x512 .bf16) : k0_pay24 H W (constant (F := Ideal) S512x512 .f32 0x00000000#32) = mmT H W := by
  funext j
  idx_vars j
  pointwise [iotaT, k0_pay24, mmT]

theorem mm33_eq (H : FVec Ideal S512x1024 .bf16) (W : Vec Ideal S1024x512 .bf16) : k0_pay33 H W = mmT H W := by
  funext j
  idx_vars j
  pointwise [iotaT, k0_pay33, mmT]

theorem mm34_eq (H : FVec Ideal S512x1024 .bf16) (W : Vec Ideal S1024x512 .bf16) : k0_pay34 H W = mmT H W := by
  funext j
  idx_vars j
  pointwise [iotaT, k0_pay34, mmT]

theorem sh1_17 (u : FVec Ideal S512x512 .f32) (p : Vec Ideal S1x8x512 .f32) : k0_pay17 iotaT u p = sh1T u p := by
  funext j
  idx_vars j
  pointwise [iotaT, k0_pay17, k0_pay16, sh1T]
  exact sel_eq _ 0 (by omega) (by norm_num) _ _

theorem sh2_18 (u : FVec Ideal S512x512 .f32) (p : Vec Ideal S1x8x512 .f32) : k0_pay18 iotaT u p = sh2T u p := by
  funext j
  idx_vars j
  pointwise [iotaT, k0_pay18, k0_pay16, sh2T]
  rw [sel_eq _ 1 (by omega) (by norm_num)]
  exact sel_eq _ 0 (by omega) (by norm_num) _ _

theorem sh1_27 (u : FVec Ideal S512x512 .f32) (p : Vec Ideal S1x8x512 .f32) : k0_pay27 iotaT u p = sh1T u p := by
  funext j
  idx_vars j
  pointwise [iotaT, k0_pay27, k0_pay26, sh1T]
  exact sel_eq _ 0 (by omega) (by norm_num) _ _

theorem sh2_28 (u : FVec Ideal S512x512 .f32) (p : Vec Ideal S1x8x512 .f32) : k0_pay28 iotaT u p = sh2T u p := by
  funext j
  idx_vars j
  pointwise [iotaT, k0_pay28, k0_pay26, sh2T]
  rw [sel_eq _ 1 (by omega) (by norm_num)]
  exact sel_eq _ 0 (by omega) (by norm_num) _ _

theorem sh1_39 (u : FVec Ideal S512x512 .f32) (p : Vec Ideal S1x8x512 .f32) : k0_pay39 iotaT u p = sh1T u p := by
  funext j
  idx_vars j
  pointwise [iotaT, k0_pay39, k0_pay38, sh1T]
  exact sel_eq _ 0 (by omega) (by norm_num) _ _

theorem sh2_40 (u : FVec Ideal S512x512 .f32) (p : Vec Ideal S1x8x512 .f32) : k0_pay40 iotaT u p = sh2T u p := by
  funext j
  idx_vars j
  pointwise [iotaT, k0_pay40, k0_pay38, sh2T]
  rw [sel_eq _ 1 (by omega) (by norm_num)]
  exact sel_eq _ 0 (by omega) (by norm_num) _ _

theorem sh1_45 (u : FVec Ideal S512x512 .f32) (p : Vec Ideal S1x8x512 .f32) : k0_pay45 iotaT u p = sh1T u p := by
  funext j
  idx_vars j
  pointwise [iotaT, k0_pay45, k0_pay44, sh1T]
  exact sel_eq _ 0 (by omega) (by norm_num) _ _

theorem sh1_55 (u : FVec Ideal S512x512 .f32) (p : Vec Ideal S1x8x512 .f32) : k0_pay55 iotaT u p = sh1T u p := by
  funext j
  idx_vars j
  pointwise [iotaT, k0_pay55, k0_pay54, sh1T]
  exact sel_eq _ 0 (by omega) (by norm_num) _ _

theorem sh2_56 (u : FVec Ideal S512x512 .f32) (p : Vec Ideal S1x8x512 .f32) : k0_pay56 iotaT u p = sh2T u p := by
  funext j
  idx_vars j
  pointwise [iotaT, k0_pay56, k0_pay54, sh2T]
  rw [sel_eq _ 1 (by omega) (by norm_num)]
  exact sel_eq _ 0 (by omega) (by norm_num) _ _

theorem sh1_61 (u : FVec Ideal S512x512 .f32) (p : Vec Ideal S1x8x512 .f32) : k0_pay61 iotaT u p = sh1T u p := by
  funext j
  idx_vars j
  pointwise [iotaT, k0_pay61, k0_pay60, sh1T]
  exact sel_eq _ 0 (by omega) (by norm_num) _ _

theorem act22_eq (u gt s1 s2 : FVec Ideal S512x512 .f32) (cw : Vec Ideal S3x512 .f32) (cb : Vec Ideal S1x512 .f32) :
    k0_pay22 u gt s1 s2 cw cb = actT u s1 s2 gt cw cb := by
  funext j
  idx_vars j
  pointwise [iotaT, k0_pay22, actT, geluS, convS, cdfS]

theorem act32_eq (u gt s1 s2 : FVec Ideal S512x512 .f32) (cw : Vec Ideal S3x512 .f32) (cb : Vec Ideal S1x512 .f32) :
    k0_pay32 u gt s1 s2 cw cb = actT u s1 s2 gt cw cb := by
  funext j
  idx_vars j
  pointwise [iotaT, k0_pay32, actT, geluS, convS, cdfS]

/-- Convolution and GELU of one block of columns, before the gate. -/
def preT (u s1 s2 : FVec Ideal S512x512 .f32) (cw : Vec Ideal S3x512 .f32) (cb : Vec Ideal S1x512 .f32) : FVec Ideal S512x512 .f32 :=
  fun j => geluS (convS (cw (ix2 0 (j 1))) (cw (ix2 1 (j 1))) (cw (ix2 2 (j 1))) (cb (ix2 0 (j 1))) (s2 j) (s1 j) (u j))

theorem pre52_eq (u s1 : FVec Ideal S512x512 .f32) (p : Vec Ideal S1x8x512 .f32) (cw : Vec Ideal S3x512 .f32) (cb : Vec Ideal S1x512 .f32) :
    k0_pay52 u s1 (k0_pay46 iotaT) (k0_pay47 p) (k0_pay48 iotaT) (k0_pay49 p) cw cb = preT u s1 (sh2T u p) cw cb := by
  funext j
  idx_vars j
  pointwise [iotaT, k0_pay52, k0_pay46, k0_pay47, k0_pay48, k0_pay49, k0_pay44, preT, geluS, convS, cdfS, sh2T]
  have e (a b c : EReal) : Scalar.select (IntOp.cmpi CmpIPredicate.eq (BitVec.ofNat 32 ↑j0) 0#32) a (Scalar.select (IntOp.cmpi CmpIPredicate.eq (BitVec.ofNat 32 ↑j0) 1#32) b c)
      = if (j0 : ℕ) = 0 then a else if (j0 : ℕ) = 1 then b else c := by
    rw [sel_eq _ 1 (by omega) (by norm_num)]
    exact sel_eq _ 0 (by omega) (by norm_num) _ _
  simp only [e]

theorem pre68_eq (u s1 : FVec Ideal S512x512 .f32) (p : Vec Ideal S1x8x512 .f32) (cw : Vec Ideal S3x512 .f32) (cb : Vec Ideal S1x512 .f32) :
    k0_pay68 u s1 (k0_pay62 iotaT) (k0_pay63 p) (k0_pay64 iotaT) (k0_pay65 p) cw cb = preT u s1 (sh2T u p) cw cb := by
  funext j
  idx_vars j
  pointwise [iotaT, k0_pay68, k0_pay62, k0_pay63, k0_pay64, k0_pay65, k0_pay60, preT, geluS, convS, cdfS, sh2T]
  have e (a b c : EReal) : Scalar.select (IntOp.cmpi CmpIPredicate.eq (BitVec.ofNat 32 ↑j0) 0#32) a (Scalar.select (IntOp.cmpi CmpIPredicate.eq (BitVec.ofNat 32 ↑j0) 1#32) b c)
      = if (j0 : ℕ) = 0 then a else if (j0 : ℕ) = 1 then b else c := by
    rw [sel_eq _ 1 (by omega) (by norm_num)]
    exact sel_eq _ 0 (by omega) (by norm_num) _ _
  simp only [e]

theorem never_eq : k0_pay6 (F := Ideal) (fun _ => 0#32) = fun _ => 0#1 := by
  funext j
  idx_vars j
  pointwise [iotaT, k0_pay6]
  rfl

/-- Adding nothing to a corner of a tile leaves the tile. -/
theorem corner_eq (a v : FVec Ideal S512x512 .f32) :
    concatenate S512x512 0 [⟨S16x512, concatenate S16x512 1 [⟨S16x128, addf (extractStridedSlice S16x128 ![0, 0] a slices_S512x512_o0_0_S16x128) (select (fun _ => 0#1) (extractStridedSlice S16x128 ![0, 0] v slices_S512x512_o0_0_S16x128) (broadcast S16x128 (Scalar.ofBits (F := Ideal) .f32 0x00000000#32)))⟩,
      ⟨S16x384, extractStridedSlice S16x384 ![0, 128] a slices_S512x512_o0_128_S16x384⟩] concatenates_S16x128_S16x384_S16x512_d1⟩,
      ⟨S496x512, extractStridedSlice S496x512 ![16, 0] a slices_S512x512_o16_0_S496x512⟩] concatenates_S16x512_S496x512_S512x512_d0 = a := by
  funext j
  idx_vars j
  pointwise
  by_cases h : (j0 : ℕ) < 16
  · rw [dif_pos h]
    by_cases h' : (j1 : ℕ) < 128
    · rw [dif_pos h']; try rfl
    · rw [dif_neg h']; exact congrArg a (by idx_ext <;> omega)
  · rw [dif_neg h]; exact congrArg a (by idx_ext <;> omega)

theorem acc25_eq (a v : FVec Ideal S512x512 .f32) (W : Vec Ideal S512x1024 .bf16) :
    k0_pay25 (fun _ => 0#1) (k0_pay7 (F := Ideal)) a v W = accT (fun _ => 0) a W := by
  unfold k0_pay25
  dsimp only
  rw [corner_eq]
  funext j
  idx_vars j
  pointwise [iotaT, k0_pay7, accT]

theorem acc37_eq (H : FVec Ideal S512x1024 .bf16) (u gt s1 s2 : FVec Ideal S512x512 .f32) (cw : Vec Ideal S3x512 .f32) (cb : Vec Ideal S1x512 .f32)
    (Wu : Vec Ideal S1024x512 .bf16) (acc : FVec Ideal S512x1024 .f32) (W : Vec Ideal S512x1024 .bf16) :
    k0_pay37 acc (k0_pay35 H (fun _ => 0#1) u gt s1 s2 cw cb Wu) (k0_pay36 u gt s1 s2 cw cb) W = accT acc (actT u s1 s2 gt cw cb) W := by
  unfold k0_pay37 k0_pay35 k0_pay36
  dsimp only
  rw [act32_eq, corner_eq]
  funext j
  idx_vars j
  pointwise [accT]

theorem acc43_eq (u gt s1 s2 : FVec Ideal S512x512 .f32) (cw : Vec Ideal S3x512 .f32) (cb : Vec Ideal S1x512 .f32)
    (acc : FVec Ideal S512x1024 .f32) (W : Vec Ideal S512x1024 .bf16) :
    k0_pay43 u gt acc s1 s2 cw cb W = accT acc (actT u s1 s2 gt cw cb) W := by
  funext j
  idx_vars j
  pointwise [iotaT, k0_pay43, accT, actT, geluS, convS, cdfS]

theorem acc59_eq (u gt s1 s2 : FVec Ideal S512x512 .f32) (cw : Vec Ideal S3x512 .f32) (cb : Vec Ideal S1x512 .f32)
    (acc : FVec Ideal S512x1024 .f32) (W : Vec Ideal S512x1024 .bf16) :
    k0_pay59 u gt acc s1 s2 cw cb W = accT acc (actT u s1 s2 gt cw cb) W := by
  funext j
  idx_vars j
  pointwise [iotaT, k0_pay59, accT, actT, geluS, convS, cdfS]

theorem acc53_eq (gt : FVec Ideal S512x512 .f32) (u s1 s2 : FVec Ideal S512x512 .f32) (cw : Vec Ideal S3x512 .f32) (cb : Vec Ideal S1x512 .f32)
    (acc : FVec Ideal S512x1024 .f32) (W : Vec Ideal S512x1024 .bf16) :
    k0_pay53 gt acc (preT u s1 s2 cw cb) W = accT acc (actT u s1 s2 gt cw cb) W := by
  funext j
  idx_vars j
  pointwise [iotaT, k0_pay53, accT, actT, preT]

theorem fin_eq (x : Vec Ideal S1x512x1024 .f32) (gt u s1 s2 : FVec Ideal S512x512 .f32) (cw : Vec Ideal S3x512 .f32) (cb : Vec Ideal S1x512 .f32)
    (acc : FVec Ideal S512x1024 .f32) (W : Vec Ideal S512x1024 .bf16) (g : Vec Ideal S1x1024 .f32) :
    k0_pay1 (k0_pay4 x) gt acc (preT u s1 s2 cw cb) W g = finT x (accT acc (actT u s1 s2 gt cw cb) W) g := by
  funext j
  idx_vars j
  pointwise [iotaT, k0_pay1, k0_pay4, finT, hS, rmsS, accT, actT, preT]

end Cert.FfnTile
end
end
-- ==== Proof.FfnSpec.lean ====
module
public import proofs.«01_k».proof.Proof.FfnTile
@[expose] public section
set_option maxRecDepth 16384
noncomputable section
namespace Cert.FfnTile
open Idealize.ShloMosaic Idealize.ShloMosaic.TcCoe Idealize.SL.Sem Cert.FfnIdeal Cert.FfnIdeal.Gen

/-! # The feed-forward block as sums over whole arrays, and a tile of it -/

variable (X : FVec Ideal S4x8192x1024 .f32) (g1 g2 : FVec Ideal S1x1024 .f32) (Wu : FVec Ideal S1024x6144 .bf16)
  (CW : FVec Ideal S3x3072 .f32) (CB : FVec Ideal S1x3072 .f32) (Wd : FVec Ideal S3072x1024 .bf16)

/-- The up projection of the normalised row. -/
def uG (b : Fin 4) (s : Fin 8192) (f : Fin 6144) : EReal :=
  ∑ k : Fin 1024, hS (fun k => X (ix3 b s k)) (fun k => g1 (ix2 0 k)) k * Wu (ix2 k f)

/-- The first half of the up projection with two rows of zeros before it. -/
def uPad (b : Fin 4) (n : ℕ) (f : Fin 3072) : EReal :=
  if h : 2 ≤ n ∧ n < 8194 then uG X g1 Wu b ⟨n - 2, by omega⟩ ⟨f, by omega⟩ else 0

/-- Convolution, GELU and gate. -/
def actG (b : Fin 4) (s : Fin 8192) (f : Fin 3072) : EReal :=
  geluS (convS (CW (ix2 0 f)) (CW (ix2 1 f)) (CW (ix2 2 f)) (CB (ix2 0 f))
    (uPad X g1 Wu b s f) (uPad X g1 Wu b (s + 1) f) (uPad X g1 Wu b (s + 2) f)) * uG X g1 Wu b s ⟨3072 + f, by omega⟩

/-- The result: the residual plus the normalised down projection. -/
def yG (b : Fin 4) (s : Fin 8192) (d : Fin 1024) : EReal :=
  X (ix3 b s d) + hS (fun d => ∑ f : Fin 3072, actG X g1 Wu CW CB b s f * Wd (ix2 f d)) (fun d => g2 (ix2 0 d)) d

/-- A row of the tile `q`. -/
abbrev rowOf (q : Fin 16) (r : Fin 512) : Fin 8192 := ⟨q * 512 + r, by omega⟩

/-- A column of the block `n` of six. -/
abbrev colOf (n : Fin 6) (f : Fin 512) : Fin 3072 := ⟨n * 512 + f, by omega⟩

theorem uPad_row (b : Fin 4) (q : Fin 16) (r : Fin 512) (f : Fin 3072) (n : ℕ) (hn : n = q * 512 + r + 2) :
    uPad X g1 Wu b n f = uG X g1 Wu b (rowOf q r) ⟨f, by omega⟩ := by
  subst hn
  unfold uPad
  rw [dif_pos (by omega)]
  rfl

/-- One block of columns of a tile, of what was loaded. -/
theorem act_spec (b : Fin 4) (q : Fin 16) (n : Fin 6) (U G : FVec Ideal S512x512 .f32) (p : Vec Ideal S1x8x512 .f32)
    (cw : Vec Ideal S3x512 .f32) (cb : Vec Ideal S1x512 .f32)
    (hU : ∀ r f, U (ix2 r f) = uG X g1 Wu b (rowOf q r) ⟨n * 512 + f, by omega⟩)
    (hG : ∀ r f, G (ix2 r f) = uG X g1 Wu b (rowOf q r) ⟨3072 + (n * 512 + f), by omega⟩)
    (hp6 : ∀ f, p (ix3 0 6 f) = uPad X g1 Wu b (q * 512) (colOf n f))
    (hp7 : ∀ f, p (ix3 0 7 f) = uPad X g1 Wu b (q * 512 + 1) (colOf n f))
    (hcw : ∀ i f, cw (ix2 i f) = CW (ix2 i (colOf n f))) (hcb : ∀ f, cb (ix2 0 f) = CB (ix2 0 (colOf n f)))
    (r f : Fin 512) :
    actT U (sh1T U p) (sh2T U p) G cw cb (ix2 r f) = actG X g1 Wu CW CB b (rowOf q r) (colOf n f) := by
  have e0 : U (ix2 r f) = uPad X g1 Wu b ((rowOf q r : ℕ) + 2) (colOf n f) := by
    rw [uPad_row X g1 Wu b q r (colOf n f) _ rfl]; exact hU r f
  have e1 : sh1T U p (ix2 r f) = uPad X g1 Wu b ((rowOf q r : ℕ) + 1) (colOf n f) := by
    show (if (r : ℕ) = 0 then p (ix3 0 7 f) else U (ix2 ⟨((r : ℕ) + 512 - 1) % 512, Nat.mod_lt _ (by norm_num)⟩ f)) = _
    by_cases h : (r : ℕ) = 0
    · rw [if_pos h, hp7]; congr 1; show _ = (q : ℕ) * 512 + r + 1; omega
    · rw [if_neg h, hU, uPad_row X g1 Wu b q ⟨((r : ℕ) + 512 - 1) % 512, Nat.mod_lt _ (by norm_num)⟩ (colOf n f)]
      show (q : ℕ) * 512 + r + 1 = q * 512 + ((r : ℕ) + 512 - 1) % 512 + 2; omega
  have e2 : sh2T U p (ix2 r f) = uPad X g1 Wu b (rowOf q r : ℕ) (colOf n f) := by
    show (if (r : ℕ) = 0 then p (ix3 0 6 f) else if (r : ℕ) = 1 then p (ix3 0 7 f)
      else U (ix2 ⟨((r : ℕ) + 512 - 2) % 512, Nat.mod_lt _ (by norm_num)⟩ f)) = _
    by_cases h : (r : ℕ) = 0
    · rw [if_pos h, hp6]; congr 1; show _ = (q : ℕ) * 512 + r; omega
    · rw [if_neg h]
      by_cases h' : (r : ℕ) = 1
      · rw [if_pos h', hp7]; congr 1; show _ = (q : ℕ) * 512 + r; omega
      · rw [if_neg h', hU, uPad_row X g1 Wu b q ⟨((r : ℕ) + 512 - 2) % 512, Nat.mod_lt _ (by norm_num)⟩ (colOf n f)]
        show (q : ℕ) * 512 + r = q * 512 + ((r : ℕ) + 512 - 2) % 512 + 2; omega
  show geluS (convS (cw (ix2 0 f)) (cw (ix2 1 f)) (cw (ix2 2 f)) (cb (ix2 0 f)) (sh2T U p (ix2 r f)) (sh1T U p (ix2 r f)) (U (ix2 r f))) * G (ix2 r f) = _
  rw [e0, e1, e2, hG, hcw, hcw, hcw, hcb]
  rfl

/-- The up projection of a tile, of what was loaded. -/
theorem mm_spec (b : Fin 4) (q : Fin 16) (col : Fin 512 → Fin 6144) (x : Vec Ideal S1x512x1024 .f32) (g : Vec Ideal S1x1024 .f32) (W : Vec Ideal S1024x512 .bf16)
    (hx : ∀ r k, x (ix3 0 r k) = X (ix3 b (rowOf q r) k)) (hg : g = g1) (hW : ∀ k f, W (ix2 k f) = Wu (ix2 k (col f))) (r f : Fin 512) :
    mmT (hT x g) W (ix2 r f) = uG X g1 Wu b (rowOf q r) (col f) := by
  subst hg
  show ∑ k : Fin 1024, hS (fun k => x (ix3 0 r k)) (fun k => g (ix2 0 k)) k * W (ix2 k f) = _
  simp only [hx, hW]
  rfl

/-- What the loads of one block of columns are, in the whole arrays. -/
structure Loads (b : Fin 4) (q : Fin 16) (n : Fin 6) (W1 W2 : Vec Ideal S1024x512 .bf16) (p : Vec Ideal S1x8x512 .f32)
    (cw : Vec Ideal S3x512 .f32) (cb : Vec Ideal S1x512 .f32) (W : Vec Ideal S512x1024 .bf16) : Prop where
  h1 : ∀ k f, W1 (ix2 k f) = Wu (ix2 k ⟨n * 512 + f, by omega⟩)
  h2 : ∀ k f, W2 (ix2 k f) = Wu (ix2 k ⟨3072 + (n * 512 + f), by omega⟩)
  p6 : ∀ f, p (ix3 0 6 f) = uPad X g1 Wu b (q * 512) (colOf n f)
  p7 : ∀ f, p (ix3 0 7 f) = uPad X g1 Wu b (q * 512 + 1) (colOf n f)
  cw : ∀ i f, cw (ix2 i f) = CW (ix2 i (colOf n f))
  cb : ∀ f, cb (ix2 0 f) = CB (ix2 0 (colOf n f))
  w : ∀ f d, W (ix2 f d) = Wd (ix2 (colOf n f) d)

/-- Convolution, GELU and gate of one block of columns, of what was loaded. -/
def blkT (x : Vec Ideal S1x512x1024 .f32) (g : Vec Ideal S1x1024 .f32) (W1 W2 : Vec Ideal S1024x512 .bf16) (p : Vec Ideal S1x8x512 .f32)
    (cw : Vec Ideal S3x512 .f32) (cb : Vec Ideal S1x512 .f32) : FVec Ideal S512x512 .f32 :=
  actT (mmT (hT x g) W1) (sh1T (mmT (hT x g) W1) p) (sh2T (mmT (hT x g) W1) p) (mmT (hT x g) W2) cw cb

theorem blk_spec (b : Fin 4) (q : Fin 16) (n : Fin 6) (x : Vec Ideal S1x512x1024 .f32) (g : Vec Ideal S1x1024 .f32) (W1 W2 : Vec Ideal S1024x512 .bf16) (p : Vec Ideal S1x8x512 .f32)
    (cw : Vec Ideal S3x512 .f32) (cb : Vec Ideal S1x512 .f32) (W : Vec Ideal S512x1024 .bf16)
    (hx : ∀ r k, x (ix3 0 r k) = X (ix3 b (rowOf q r) k)) (hg : g = g1) (h : Loads X g1 Wu CW CB Wd b q n W1 W2 p cw cb W) (r f : Fin 512) :
    blkT x g W1 W2 p cw cb (ix2 r f) = actG X g1 Wu CW CB b (rowOf q r) (colOf n f) :=
  act_spec X g1 Wu CW CB b q n _ _ p cw cb (mm_spec X g1 Wu b q _ x g W1 hx hg h.h1) (mm_spec X g1 Wu b q _ x g W2 hx hg h.h2) h.p6 h.p7 h.cw h.cb r f

/-- The result of a tile, of the six blocks of columns. -/
theorem out_spec (b : Fin 4) (q : Fin 16) (x : Vec Ideal S1x512x1024 .f32) (g : Vec Ideal S1x1024 .f32)
    (a0 a1 a2 a3 a4 a5 : FVec Ideal S512x512 .f32) (W0 W1 W2 W3 W4 W5 : Vec Ideal S512x1024 .bf16)
    (hx : ∀ r k, x (ix3 0 r k) = X (ix3 b (rowOf q r) k)) (hg : g = g2)
    (h0 : ∀ r f, a0 (ix2 r f) = actG X g1 Wu CW CB b (rowOf q r) (colOf 0 f)) (w0 : ∀ f d, W0 (ix2 f d) = Wd (ix2 (colOf 0 f) d))
    (h1 : ∀ r f, a1 (ix2 r f) = actG X g1 Wu CW CB b (rowOf q r) (colOf 1 f)) (w1 : ∀ f d, W1 (ix2 f d) = Wd (ix2 (colOf 1 f) d))
    (h2 : ∀ r f, a2 (ix2 r f) = actG X g1 Wu CW CB b (rowOf q r) (colOf 2 f)) (w2 : ∀ f d, W2 (ix2 f d) = Wd (ix2 (colOf 2 f) d))
    (h3 : ∀ r f, a3 (ix2 r f) = actG X g1 Wu CW CB b (rowOf q r) (colOf 3 f)) (w3 : ∀ f d, W3 (ix2 f d) = Wd (ix2 (colOf 3 f) d))
    (h4 : ∀ r f, a4 (ix2 r f) = actG X g1 Wu CW CB b (rowOf q r) (colOf 4 f)) (w4 : ∀ f d, W4 (ix2 f d) = Wd (ix2 (colOf 4 f) d))
    (h5 : ∀ r f, a5 (ix2 r f) = actG X g1 Wu CW CB b (rowOf q r) (colOf 5 f)) (w5 : ∀ f d, W5 (ix2 f d) = Wd (ix2 (colOf 5 f) d))
    (r : Fin 512) (d : Fin 1024) :
    finT x (accT (accT (accT (accT (accT (accT (fun _ => 0) a0 W0) a1 W1) a2 W2) a3 W3) a4 W4) a5 W5) g (ix3 0 r d)
      = yG X g1 g2 Wu CW CB Wd b (rowOf q r) d := by
  subst hg
  have e : ∀ d : Fin 1024, accT (accT (accT (accT (accT (accT (fun _ => 0) a0 W0) a1 W1) a2 W2) a3 W3) a4 W4) a5 W5 (ix2 r d)
      = ∑ f : Fin 3072, actG X g1 Wu CW CB b (rowOf q r) f * Wd (ix2 f d) := by
    intro d
    show 0 + (∑ f : Fin 512, a0 (ix2 r f) * W0 (ix2 f d)) + (∑ f : Fin 512, a1 (ix2 r f) * W1 (ix2 f d)) + (∑ f : Fin 512, a2 (ix2 r f) * W2 (ix2 f d))
      + (∑ f : Fin 512, a3 (ix2 r f) * W3 (ix2 f d)) + (∑ f : Fin 512, a4 (ix2 r f) * W4 (ix2 f d)) + (∑ f : Fin 512, a5 (ix2 r f) * W5 (ix2 f d)) = _
    rw [Fin.sum_univ_tiles 6 512 rfl (fun f : Fin 3072 => actG X g1 Wu CW CB b (rowOf q r) f * Wd (ix2 f d)), Fin.sum_univ_six, zero_add]
    simp only [h0, h1, h2, h3, h4, h5, w0, w1, w2, w3, w4, w5]
  show x (ix3 0 r d) + hS (fun d => accT _ _ _ (ix2 r d)) (fun d => g (ix2 0 d)) d = _
  simp only [hx, e]
  rfl

/-- The result of a tile, of everything loaded. -/
theorem tile_spec (b : Fin 4) (q : Fin 16) (x : Vec Ideal S1x512x1024 .f32) (g g' : Vec Ideal S1x1024 .f32)
    (U0 U1 U2 U3 U4 U5 G0 G1 G2 G3 G4 G5 : Vec Ideal S1024x512 .bf16) (p0 p1 p2 p3 p4 p5 : Vec Ideal S1x8x512 .f32)
    (c0 c1 c2 c3 c4 c5 : Vec Ideal S3x512 .f32) (d0 d1 d2 d3 d4 d5 : Vec Ideal S1x512 .f32) (W0 W1 W2 W3 W4 W5 : Vec Ideal S512x1024 .bf16)
    (hx : ∀ r k, x (ix3 0 r k) = X (ix3 b (rowOf q r) k)) (hg : g = g1) (hg' : g' = g2)
    (h0 : Loads X g1 Wu CW CB Wd b q 0 U0 G0 p0 c0 d0 W0) (h1 : Loads X g1 Wu CW CB Wd b q 1 U1 G1 p1 c1 d1 W1)
    (h2 : Loads X g1 Wu CW CB Wd b q 2 U2 G2 p2 c2 d2 W2) (h3 : Loads X g1 Wu CW CB Wd b q 3 U3 G3 p3 c3 d3 W3)
    (h4 : Loads X g1 Wu CW CB Wd b q 4 U4 G4 p4 c4 d4 W4) (h5 : Loads X g1 Wu CW CB Wd b q 5 U5 G5 p5 c5 d5 W5)
    (r : Fin 512) (d : Fin 1024) :
    finT x (accT (accT (accT (accT (accT (accT (fun _ => 0) (blkT x g U0 G0 p0 c0 d0) W0) (blkT x g U1 G1 p1 c1 d1) W1)
      (blkT x g U2 G2 p2 c2 d2) W2) (blkT x g U3 G3 p3 c3 d3) W3) (blkT x g U4 G4 p4 c4 d4) W4) (blkT x g U5 G5 p5 c5 d5) W5) g' (ix3 0 r d)
      = yG X g1 g2 Wu CW CB Wd b (rowOf q r) d :=
  out_spec X g1 g2 Wu CW CB Wd b q x g' _ _ _ _ _ _ W0 W1 W2 W3 W4 W5 hx hg'
    (blk_spec X g1 Wu CW CB Wd b q 0 x g _ _ _ _ _ _ hx hg h0) h0.w (blk_spec X g1 Wu CW CB Wd b q 1 x g _ _ _ _ _ _ hx hg h1) h1.w
    (blk_spec X g1 Wu CW CB Wd b q 2 x g _ _ _ _ _ _ hx hg h2) h2.w (blk_spec X g1 Wu CW CB Wd b q 3 x g _ _ _ _ _ _ hx hg h3) h3.w
    (blk_spec X g1 Wu CW CB Wd b q 4 x g _ _ _ _ _ _ hx hg h4) h4.w (blk_spec X g1 Wu CW CB Wd b q 5 x g _ _ _ _ _ _ hx hg h5) h5.w r d

end Cert.FfnTile
end
end
-- ==== Proof.FfnPoint.lean ====
module
public import proofs.«01_k».proof.Proof.FfnSpec
@[expose] public section
set_option maxRecDepth 16384
noncomputable section
namespace Cert.FfnTile
open Idealize.ShloMosaic Idealize.ShloMosaic.TcCoe Idealize.SL.Sem Cert.FfnIdeal Cert.FfnIdeal.Gen
open Idealize.ShloMosaic.Pipeline (Dat)
variable (m : (ℓ : Loc nD τ sig) → Buf (Elt Ideal) ℓ)

/-! # What one grid point leaves -/

/-- The batch entry of a grid point. -/
abbrev bOf (t : Fin cfg0.N) : Fin 4 := ⟨t.val / 16, by have := lt_of_lt_of_eq t.isLt N_0; omega⟩
/-- The tile of a grid point. -/
abbrev qOf (t : Fin cfg0.N) : Fin 16 := ⟨t.val % 16, by omega⟩

/-- Which block of each array a grid point reads. -/
theorem idx : ∀ t : Fin cfg0.N, win0_0.index t = ![t.val / 16, t.val % 16, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ t.val / 16 < 4 := (by decide +kernel : ∀ t : Fin grid0.N, _)

abbrev aX (c : Dev nD) : FVec Ideal S4x8192x1024 .f32 := m ((c : Thread nD τ).loc main_arg0)
abbrev aG1 (c : Dev nD) : FVec Ideal S1x1024 .f32 := m ((c : Thread nD τ).loc main_arg1)
abbrev aG2 (c : Dev nD) : FVec Ideal S1x1024 .f32 := m ((c : Thread nD τ).loc main_arg2)
abbrev aWu (c : Dev nD) : FVec Ideal S1024x6144 .bf16 := m ((c : Thread nD τ).loc main_arg3)
abbrev aCW (c : Dev nD) : FVec Ideal S3x3072 .f32 := m ((c : Thread nD τ).loc main_arg4)
abbrev aCB (c : Dev nD) : FVec Ideal S1x3072 .f32 := m ((c : Thread nD τ).loc main_arg5)
abbrev aWd (c : Dev nD) : FVec Ideal S3072x1024 .bf16 := m ((c : Thread nD τ).loc main_arg6)

theorem b0 (c : Dev nD) (t : Fin cfg0.N) (r : Fin 512) (k : Fin 1024) :
    (iblk m c 0 t : Vec Ideal S1x512x1024 .f32) (ix3 0 r k) = aX m c (ix3 (bOf t) (rowOf (qOf t) r) k) := by
  blk_ext [iblk, V, idx t]
theorem b1 (c : Dev nD) (t : Fin cfg0.N) : (iblk m c 1 t : Vec Ideal S1x1024 .f32) = aG1 m c := by
  blk_ext! [iblk, V, idx t]
theorem b2 (c : Dev nD) (t : Fin cfg0.N) : (iblk m c 2 t : Vec Ideal S1x1024 .f32) = aG2 m c := by
  blk_ext! [iblk, V, idx t]
theorem b3 (c : Dev nD) (t : Fin cfg0.N) : (iblk m c 3 t : Vec Ideal S1024x6144 .bf16) = aWu m c := by
  blk_ext! [iblk, V, idx t]
theorem b4 (c : Dev nD) (t : Fin cfg0.N) : (iblk m c 4 t : Vec Ideal S3x3072 .f32) = aCW m c := by
  blk_ext! [iblk, V, idx t]
theorem b5 (c : Dev nD) (t : Fin cfg0.N) : (iblk m c 5 t : Vec Ideal S1x3072 .f32) = aCB m c := by
  blk_ext! [iblk, V, idx t]
theorem b6 (c : Dev nD) (t : Fin cfg0.N) : (iblk m c 6 t : Vec Ideal S3072x1024 .bf16) = aWd m c := by
  blk_ext! [iblk, V, idx t]

theorem iotaT_eq : iota Kind.tc S512x512 32 [0] iota_S512x512_d0_w32 = iotaT := rfl
/-- The switch that never is on. -/
theorem never (c : Dev nD) (t : Fin cfg0.N) : (iblk m c 7 t : Vec Ideal S16x128 .i32) = fun _ => 0#32 := by
  funext j
  idx_vars j
  blk_simp [iblk]
  entry_read
  pointwise

/-- The rows carried over from the tile before, as a grid point `t` needs them. -/
def Carry (c : Dev nD) (t : Fin cfg0.N) (pv : Vec Ideal S6x8x512 .f32) : Prop :=
  ∀ (n : Fin 6) (f : Fin 512),
    pv (ix3 n 6 f) = uPad (aX m c) (aG1 m c) (aWu m c) (bOf t) (qOf t * 512) (colOf n f)
    ∧ pv (ix3 n 7 f) = uPad (aX m c) (aG1 m c) (aWu m c) (bOf t) (qOf t * 512 + 1) (colOf n f)

theorem blkT_eq (x : Vec Ideal S1x512x1024 .f32) (g : Vec Ideal S1x1024 .f32) (W1 W2 : Vec Ideal S1024x512 .bf16) (p : Vec Ideal S1x8x512 .f32)
    (cw : Vec Ideal S3x512 .f32) (cb : Vec Ideal S1x512 .f32) :
    actT (mmT (hT x g) W1) (sh1T (mmT (hT x g) W1) p) (sh2T (mmT (hT x g) W1) p) (mmT (hT x g) W2) cw cb = blkT x g W1 W2 p cw cb := rfl

set_option maxHeartbeats 400000 in
theorem pointA (c : Dev nD) (t : Fin cfg0.N) (h0 : t.val % 16 = 0) (h1 : ¬ 1 ≤ t.val % 16) (r : Fin 512) (d : Fin 1024) :
    ((outsAt0 m c t.val t.isLt).1 : Vec Ideal S1x512x1024 .f32) (ix3 0 r d)
      = yG (aX m c) (aG1 m c) (aG2 m c) (aWu m c) (aCW m c) (aCB m c) (aWd m c) (bOf t) (rowOf (qOf t) r) d := by
  have hC : Carry m c t (k0_pay2 (F := Ideal)) := by
    intro n f
    constructor
    · unfold uPad; rw [dif_neg (by show ¬ (2 ≤ t.val % 16 * 512 ∧ _); omega)]; pointwise [k0_pay2]
    · unfold uPad; rw [dif_neg (by show ¬ (2 ≤ t.val % 16 * 512 + 1 ∧ _); omega)]; pointwise [k0_pay2]
  rw [outsAt0_A m c t h0 h1]
  frame_out
  rw [never]
  simp (disch := decide) only [View.readCov_fill]
  rw [iotaT_eq]
  simp only [never_eq, acc25_eq, acc37_eq, acc43_eq, acc53_eq, acc59_eq, fin_eq, pre52_eq, pre68_eq, act22_eq, act32_eq, sh1_17, sh2_18, sh1_27, sh2_28, sh1_39, sh2_40, sh1_45, sh1_55, sh2_56, sh1_61, mm8_eq, mm9_eq, mm10_eq, mm11_eq, mm12_eq, mm13_eq, mm14_eq, mm15_eq, mm23_eq, mm24_eq, mm33_eq, mm34_eq, pay5_eq]
  rw [b1, b2, b3, b4, b5, b6]
  erw [never_eq, acc25_eq, acc37_eq]
  simp only [blkT_eq]
  refine tile_spec (aX m c) (aG1 m c) (aG2 m c) (aWu m c) (aCW m c) (aCB m c) (aWd m c) (bOf t) (qOf t) _ _ _ _ _ _ _ _ _ _ _ _ _ _ _ _ _ _ _ _ _ _ _ _ _ _ _ _ _ _ _ _ _ _ _ _ _ _ _ (b0 m c t) rfl rfl ?_ ?_ ?_ ?_ ?_ ?_ r d
  all_goals
    refine ⟨?_, ?_, ?_, ?_, ?_, ?_, ?_⟩
    · intro k f; pointwise; blk_ext
    · intro k f; pointwise; blk_ext
    · intro f; pointwise; exact (hC _ f).1
    · intro f; pointwise; exact (hC _ f).2
    · intro k f; pointwise; blk_ext
    · intro f; pointwise; blk_ext
    · intro k f; pointwise; blk_ext

theorem pay3_eq (v : Vec Ideal S6x8x512 .f32) : k0_pay3 (F := Ideal) v = v := by
  funext j
  idx_vars j
  pointwise [k0_pay3]

set_option maxHeartbeats 400000 in
theorem pointB (c : Dev nD) (t : Fin cfg0.N) (h0 : ¬ t.val % 16 = 0) (h1 : 1 ≤ t.val % 16)
    (hC : ∀ h, Carry m c t (outsAt0 m c (t.val - 1) h).2.2) (r : Fin 512) (d : Fin 1024) :
    ((outsAt0 m c t.val t.isLt).1 : Vec Ideal S1x512x1024 .f32) (ix3 0 r d)
      = yG (aX m c) (aG1 m c) (aG2 m c) (aWu m c) (aCW m c) (aCB m c) (aWd m c) (bOf t) (rowOf (qOf t) r) d := by
  replace hC := hC (by have := t.isLt; omega)
  rw [outsAt0_B m c t h0 h1]
  frame_out
  rw [never]
  simp only [read_unread_whole, pay3_eq]
  simp (disch := decide) only [View.readCov_fill]
  rw [iotaT_eq]
  simp only [never_eq, acc25_eq, acc37_eq, acc43_eq, acc53_eq, acc59_eq, fin_eq, pre52_eq, pre68_eq, act22_eq, act32_eq, sh1_17, sh2_18, sh1_27, sh2_28, sh1_39, sh2_40, sh1_45, sh1_55, sh2_56, sh1_61, mm8_eq, mm9_eq, mm10_eq, mm11_eq, mm12_eq, mm13_eq, mm14_eq, mm15_eq, mm23_eq, mm24_eq, mm33_eq, mm34_eq, pay5_eq]
  rw [b1, b2, b3, b4, b5, b6]
  erw [never_eq, acc25_eq, acc37_eq]
  simp only [blkT_eq]
  refine tile_spec (aX m c) (aG1 m c) (aG2 m c) (aWu m c) (aCW m c) (aCB m c) (aWd m c) (bOf t) (qOf t) _ _ _ _ _ _ _ _ _ _ _ _ _ _ _ _ _ _ _ _ _ _ _ _ _ _ _ _ _ _ _ _ _ _ _ _ _ _ _ (b0 m c t) rfl rfl ?_ ?_ ?_ ?_ ?_ ?_ r d
  all_goals
    refine ⟨?_, ?_, ?_, ?_, ?_, ?_, ?_⟩
    · intro k f; pointwise; blk_ext
    · intro k f; pointwise; blk_ext
    · intro f; pointwise; exact (hC _ f).1
    · intro f; pointwise; exact (hC _ f).2
    · intro k f; pointwise; blk_ext
    · intro f; pointwise; blk_ext
    · intro k f; pointwise; blk_ext

end Cert.FfnTile
end
end
-- ==== Proof.FfnCarry.lean ====
module
public import proofs.«01_k».proof.Proof.FfnPoint
@[expose] public section
set_option maxRecDepth 16384
noncomputable section
namespace Cert.FfnTile
open Idealize.ShloMosaic Idealize.ShloMosaic.TcCoe Idealize.SL.Sem Cert.FfnIdeal Cert.FfnIdeal.Gen
open Idealize.ShloMosaic.Pipeline (Dat)
variable (m : (ℓ : Loc nD τ sig) → Buf (Elt Ideal) ℓ)

/-! # What a grid point hands on: the last rows of its up projection -/

/-- The eight last rows of the tile's up projection, by blocks of columns. -/
def scrG (c : Dev nD) (t : Fin cfg0.N) : Vec Ideal S6x8x512 .f32 := fun y =>
  uG (aX m c) (aG1 m c) (aWu m c) (bOf t) (rowOf (qOf t) ⟨504 + (y 1).val, by have : (y 1).val < 8 := (y 1).isLt; omega⟩)
    ⟨(y 0).val * 512 + (y 2).val, by have : (y 0).val < 6 := (y 0).isLt; have : (y 2).val < 512 := (y 2).isLt; omega⟩

/-- The two last rows of the tile's up projection. -/
def tailG (c : Dev nD) (t : Fin cfg0.N) : Vec Ideal S1x2x3072 .f32 := fun y =>
  uG (aX m c) (aG1 m c) (aWu m c) (bOf t) (rowOf (qOf t) ⟨510 + (y 1).val, by have : (y 1).val < 2 := (y 1).isLt; omega⟩)
    ⟨(y 2).val, by have : (y 2).val < 3072 := (y 2).isLt; omega⟩

theorem row_piece (c : Dev nD) (t : Fin cfg0.N) (n : Fin 6) (W : Vec Ideal S1024x512 .bf16)
    (hW : ∀ k f, W (ix2 k f) = aWu m c (ix2 k ⟨n * 512 + f, by omega⟩)) (r f : Fin 512) (s : Fin 8192) (g : Fin 6144)
    (hs : (s : ℕ) = qOf t * 512 + r) (hg : (g : ℕ) = n * 512 + f) :
    mmT (hT (iblk m c 0 t) (aG1 m c)) W (ix2 r f) = uG (aX m c) (aG1 m c) (aWu m c) (bOf t) s g := by
  have es : s = rowOf (qOf t) r := Fin.ext hs
  have eg : g = ⟨n * 512 + f, by omega⟩ := Fin.ext hg
  rw [es, eg]
  exact mm_spec (aX m c) (aG1 m c) (aWu m c) (bOf t) (qOf t) (fun f => ⟨n * 512 + f, by omega⟩) (iblk m c 0 t) (aG1 m c) W (b0 m c t) rfl hW r f

theorem keep66 (U : FVec Ideal S512x512 .f32) (y : S1x8x512.Idx) (h1 : (y 1).val < 8) : k0_pay66 U y = U (ix2 ⟨504 + (y 1).val, by omega⟩ (y 2)) := by
  idx_vars y
  pointwise [k0_pay66]

theorem keep57 (U : FVec Ideal S512x512 .f32) (y : S1x8x512.Idx) (h1 : (y 1).val < 8) : k0_pay57 U y = U (ix2 ⟨504 + (y 1).val, by omega⟩ (y 2)) := by
  idx_vars y
  pointwise [k0_pay57]

theorem keep50 (U : FVec Ideal S512x512 .f32) (y : S1x8x512.Idx) (h1 : (y 1).val < 8) : k0_pay50 U y = U (ix2 ⟨504 + (y 1).val, by omega⟩ (y 2)) := by
  idx_vars y
  pointwise [k0_pay50]

theorem keep41 (U : FVec Ideal S512x512 .f32) (y : S1x8x512.Idx) (h1 : (y 1).val < 8) : k0_pay41 U y = U (ix2 ⟨504 + (y 1).val, by omega⟩ (y 2)) := by
  idx_vars y
  pointwise [k0_pay41]

theorem keep29 (U : FVec Ideal S512x512 .f32) (y : S1x8x512.Idx) (h1 : (y 1).val < 8) : k0_pay29 U y = U (ix2 ⟨504 + (y 1).val, by omega⟩ (y 2)) := by
  idx_vars y
  pointwise [k0_pay29]

theorem keep20 (U : FVec Ideal S512x512 .f32) (y : S1x8x512.Idx) (h1 : (y 1).val < 8) : k0_pay20 (k0_pay19 U) y = U (ix2 ⟨504 + (y 1).val, by omega⟩ (y 2)) := by
  idx_vars y
  pointwise [k0_pay20, k0_pay19]

theorem tail67 (U : FVec Ideal S512x512 .f32) (y : S1x2x512.Idx) (h1 : (y 1).val < 2) : k0_pay67 U y = U (ix2 ⟨510 + (y 1).val, by omega⟩ (y 2)) := by
  idx_vars y
  pointwise [k0_pay67]

theorem tail58 (U : FVec Ideal S512x512 .f32) (y : S1x2x512.Idx) (h1 : (y 1).val < 2) : k0_pay58 U y = U (ix2 ⟨510 + (y 1).val, by omega⟩ (y 2)) := by
  idx_vars y
  pointwise [k0_pay58]

theorem tail51 (U : FVec Ideal S512x512 .f32) (y : S1x2x512.Idx) (h1 : (y 1).val < 2) : k0_pay51 U y = U (ix2 ⟨510 + (y 1).val, by omega⟩ (y 2)) := by
  idx_vars y
  pointwise [k0_pay51]

theorem tail42 (U : FVec Ideal S512x512 .f32) (y : S1x2x512.Idx) (h1 : (y 1).val < 2) : k0_pay42 U y = U (ix2 ⟨510 + (y 1).val, by omega⟩ (y 2)) := by
  idx_vars y
  pointwise [k0_pay42]

theorem tail31 (U : FVec Ideal S512x512 .f32) (y : S1x2x512.Idx) (h1 : (y 1).val < 2) : k0_pay31 (k0_pay30 U) y = U (ix2 ⟨510 + (y 1).val, by omega⟩ (y 2)) := by
  idx_vars y
  pointwise [k0_pay31, k0_pay30]

theorem tail21 (U : FVec Ideal S512x512 .f32) (y : S1x2x512.Idx) (h1 : (y 1).val < 2) : k0_pay21 U y = U (ix2 ⟨510 + (y 1).val, by omega⟩ (y 2)) := by
  idx_vars y
  pointwise [k0_pay21]

theorem scrA (c : Dev nD) (t : Fin cfg0.N) (h0 : t.val % 16 = 0) (h1 : ¬ 1 ≤ t.val % 16) :
    ((outsAt0 m c t.val t.isLt).2.2 : Vec Ideal S6x8x512 .f32) = scrG m c t := by
  rw [outsAt0_A m c t h0 h1]
  funext y
  frame_out
  simp only [mm8_eq, mm10_eq, mm12_eq, mm14_eq, mm23_eq, mm33_eq, pay5_eq]
  rw [b1, b3]
  canon_tiles y h
  · refine (keep66 _ _ ‹_›).trans (row_piece m c t 5 _ (fun k f => ?_) _ _ _ _ ?_ ?_)
    · pointwise; blk_ext
    · show _ % 16 * 512 + (504 + _) = _ % 16 * 512 + (504 + _); omega
    · show _ = 5 * 512 + _; dsimp only; omega
  · refine (keep57 _ _ ‹_›).trans (row_piece m c t 4 _ (fun k f => ?_) _ _ _ _ ?_ ?_)
    · pointwise; blk_ext
    · show _ % 16 * 512 + (504 + _) = _ % 16 * 512 + (504 + _); omega
    · show _ = 4 * 512 + _; dsimp only; omega
  · refine (keep50 _ _ ‹_›).trans (row_piece m c t 3 _ (fun k f => ?_) _ _ _ _ ?_ ?_)
    · pointwise; blk_ext
    · show _ % 16 * 512 + (504 + _) = _ % 16 * 512 + (504 + _); omega
    · show _ = 3 * 512 + _; dsimp only; omega
  · refine (keep41 _ _ ‹_›).trans (row_piece m c t 2 _ (fun k f => ?_) _ _ _ _ ?_ ?_)
    · pointwise; blk_ext
    · show _ % 16 * 512 + (504 + _) = _ % 16 * 512 + (504 + _); omega
    · show _ = 2 * 512 + _; dsimp only; omega
  · refine (keep29 _ _ ‹_›).trans (row_piece m c t 1 _ (fun k f => ?_) _ _ _ _ ?_ ?_)
    · pointwise; blk_ext
    · show _ % 16 * 512 + (504 + _) = _ % 16 * 512 + (504 + _); omega
    · show _ = 1 * 512 + _; dsimp only; omega
  · refine (keep20 _ _ ‹_›).trans (row_piece m c t 0 _ (fun k f => ?_) _ _ _ _ ?_ ?_)
    · pointwise; blk_ext
    · show _ % 16 * 512 + (504 + _) = _ % 16 * 512 + (504 + _); omega
    · show _ = 0 * 512 + _; dsimp only; omega

theorem scrB (c : Dev nD) (t : Fin cfg0.N) (h0 : ¬ t.val % 16 = 0) (h1 : 1 ≤ t.val % 16) :
    ((outsAt0 m c t.val t.isLt).2.2 : Vec Ideal S6x8x512 .f32) = scrG m c t := by
  rw [outsAt0_B m c t h0 h1]
  funext y
  frame_out
  simp only [mm8_eq, mm10_eq, mm12_eq, mm14_eq, mm23_eq, mm33_eq, pay5_eq]
  rw [b1, b3]
  canon_tiles y h
  · refine (keep66 _ _ ‹_›).trans (row_piece m c t 5 _ (fun k f => ?_) _ _ _ _ ?_ ?_)
    · pointwise; blk_ext
    · show _ % 16 * 512 + (504 + _) = _ % 16 * 512 + (504 + _); omega
    · show _ = 5 * 512 + _; dsimp only; omega
  · refine (keep57 _ _ ‹_›).trans (row_piece m c t 4 _ (fun k f => ?_) _ _ _ _ ?_ ?_)
    · pointwise; blk_ext
    · show _ % 16 * 512 + (504 + _) = _ % 16 * 512 + (504 + _); omega
    · show _ = 4 * 512 + _; dsimp only; omega
  · refine (keep50 _ _ ‹_›).trans (row_piece m c t 3 _ (fun k f => ?_) _ _ _ _ ?_ ?_)
    · pointwise; blk_ext
    · show _ % 16 * 512 + (504 + _) = _ % 16 * 512 + (504 + _); omega
    · show _ = 3 * 512 + _; dsimp only; omega
  · refine (keep41 _ _ ‹_›).trans (row_piece m c t 2 _ (fun k f => ?_) _ _ _ _ ?_ ?_)
    · pointwise; blk_ext
    · show _ % 16 * 512 + (504 + _) = _ % 16 * 512 + (504 + _); omega
    · show _ = 2 * 512 + _; dsimp only; omega
  · refine (keep29 _ _ ‹_›).trans (row_piece m c t 1 _ (fun k f => ?_) _ _ _ _ ?_ ?_)
    · pointwise; blk_ext
    · show _ % 16 * 512 + (504 + _) = _ % 16 * 512 + (504 + _); omega
    · show _ = 1 * 512 + _; dsimp only; omega
  · refine (keep20 _ _ ‹_›).trans (row_piece m c t 0 _ (fun k f => ?_) _ _ _ _ ?_ ?_)
    · pointwise; blk_ext
    · show _ % 16 * 512 + (504 + _) = _ % 16 * 512 + (504 + _); omega
    · show _ = 0 * 512 + _; dsimp only; omega

theorem tailB (c : Dev nD) (t : Fin cfg0.N) (h0 : ¬ t.val % 16 = 0) (h1 : 1 ≤ t.val % 16) :
    ((outsAt0 m c t.val t.isLt).2.1 : Vec Ideal S1x2x3072 .f32) = tailG m c t := by
  rw [outsAt0_B m c t h0 h1]
  funext y
  frame_out
  simp only [mm8_eq, mm10_eq, mm12_eq, mm14_eq, mm23_eq, mm33_eq, pay5_eq]
  rw [b1, b3]
  canon_tiles y h
  · refine (tail67 _ _ ‹_›).trans (row_piece m c t 5 _ (fun k f => ?_) _ _ _ _ ?_ ?_)
    · pointwise; blk_ext
    · show _ % 16 * 512 + (510 + _) = _ % 16 * 512 + (510 + _); omega
    · show _ = 5 * 512 + _; dsimp only; omega
  · refine (tail58 _ _ ‹_›).trans (row_piece m c t 4 _ (fun k f => ?_) _ _ _ _ ?_ ?_)
    · pointwise; blk_ext
    · show _ % 16 * 512 + (510 + _) = _ % 16 * 512 + (510 + _); omega
    · show _ = 4 * 512 + _; dsimp only; omega
  · refine (tail51 _ _ ‹_›).trans (row_piece m c t 3 _ (fun k f => ?_) _ _ _ _ ?_ ?_)
    · pointwise; blk_ext
    · show _ % 16 * 512 + (510 + _) = _ % 16 * 512 + (510 + _); omega
    · show _ = 3 * 512 + _; dsimp only; omega
  · refine (tail42 _ _ ‹_›).trans (row_piece m c t 2 _ (fun k f => ?_) _ _ _ _ ?_ ?_)
    · pointwise; blk_ext
    · show _ % 16 * 512 + (510 + _) = _ % 16 * 512 + (510 + _); omega
    · show _ = 2 * 512 + _; dsimp only; omega
  · refine (tail31 _ _ ‹_›).trans (row_piece m c t 1 _ (fun k f => ?_) _ _ _ _ ?_ ?_)
    · pointwise; blk_ext
    · show _ % 16 * 512 + (510 + _) = _ % 16 * 512 + (510 + _); omega
    · show _ = 1 * 512 + _; dsimp only; omega
  · refine (tail21 _ _ ‹_›).trans (row_piece m c t 0 _ (fun k f => ?_) _ _ _ _ ?_ ?_)
    · pointwise; blk_ext
    · show _ % 16 * 512 + (510 + _) = _ % 16 * 512 + (510 + _); omega
    · show _ = 0 * 512 + _; dsimp only; omega

/-- The rows a grid point needs from the one before. -/
theorem carry (c : Dev nD) (t : Fin cfg0.N) (h1 : 1 ≤ t.val % 16) (h) : Carry m c t (outsAt0 m c (t.val - 1) h).2.2 := by
  have e : ((outsAt0 m c (t.val - 1) h).2.2 : Vec Ideal S6x8x512 .f32) = scrG m c ⟨t.val - 1, h⟩ := by
    by_cases h0 : (t.val - 1) % 16 = 0
    · exact scrA m c ⟨t.val - 1, h⟩ h0 (by show ¬ 1 ≤ (t.val - 1) % 16; omega)
    · exact scrB m c ⟨t.val - 1, h⟩ h0 (by show 1 ≤ (t.val - 1) % 16; omega)
  intro n f
  rw [e]
  have hb : bOf ⟨t.val - 1, h⟩ = bOf t := Fin.ext (by show (t.val - 1) / 16 = t.val / 16; omega)
  have hq : qOf ⟨t.val - 1, h⟩ = (⟨t.val % 16 - 1, by omega⟩ : Fin 16) := Fin.ext (by show (t.val - 1) % 16 = t.val % 16 - 1; omega)
  constructor
  · rw [uPad_row (aX m c) (aG1 m c) (aWu m c) (bOf t) ⟨t.val % 16 - 1, by omega⟩ ⟨510, by norm_num⟩ (colOf n f) _ (by show t.val % 16 * 512 = (t.val % 16 - 1) * 512 + 510 + 2; omega)]
    show uG _ _ _ (bOf ⟨t.val - 1, h⟩) (rowOf (qOf ⟨t.val - 1, h⟩) ⟨504 + 6, _⟩) _ = _
    rw [hb, hq]
    rfl
  · rw [uPad_row (aX m c) (aG1 m c) (aWu m c) (bOf t) ⟨t.val % 16 - 1, by omega⟩ ⟨511, by norm_num⟩ (colOf n f) _ (by show t.val % 16 * 512 + 1 = (t.val % 16 - 1) * 512 + 511 + 2; omega)]
    show uG _ _ _ (bOf ⟨t.val - 1, h⟩) (rowOf (qOf ⟨t.val - 1, h⟩) ⟨504 + 7, _⟩) _ = _
    rw [hb, hq]
    rfl

/-- What a grid point leaves in its block of the result. -/
theorem point (c : Dev nD) (t : Fin cfg0.N) (r : Fin 512) (d : Fin 1024) :
    ((outsAt0 m c t.val t.isLt).1 : Vec Ideal S1x512x1024 .f32) (ix3 0 r d)
      = yG (aX m c) (aG1 m c) (aG2 m c) (aWu m c) (aCW m c) (aCB m c) (aWd m c) (bOf t) (rowOf (qOf t) r) d := by
  by_cases h0 : t.val % 16 = 0
  · exact pointA m c t h0 (by omega) r d
  · exact pointB m c t h0 (by omega) (carry m c t (by omega)) r d

end Cert.FfnTile
end
end
-- ==== Proof.FfnArr.lean ====
module
public import proofs.«01_k».proof.Proof.FfnCarry
@[expose] public section
set_option maxRecDepth 16384
noncomputable section
namespace Cert.FfnTile
open Idealize.ShloMosaic Idealize.ShloMosaic.TcCoe Idealize.SL.Sem Cert.FfnIdeal Cert.FfnIdeal.Gen Cert.FfnIdeal.Value
open Idealize.ShloMosaic.Pipeline (Dat)
variable (m : (ℓ : Loc nD τ sig) → Buf (Elt Ideal) ℓ)

/-! # The two arrays the feed-forward kernel leaves -/

/-- The result array, entry by entry. -/
theorem out_at (c : Dev nD) (b : Fin 4) (s : Fin 8192) (d : Fin 1024) :
    (G8 m c : FVec Ideal S4x8192x1024 .f32) (ix3 b s d) = yG (aX m c) (aG1 m c) (aG2 m c) (aWu m c) (aCW m c) (aCB m c) (aWd m c) b s d := by
  have hN : cfg0.N = 64 := N_0
  have hp : pt8Of (ix3 b s d : S4x8192x1024.Idx) = 16 * b.val + s.val / 512 := by
    show 16 * (b.val / 1 - 0) + 1 * (s.val / 512 - 0) + 1 * (d.val / 1024 - 0) = _; omega
  have hlt : 16 * b.val + s.val / 512 < cfg0.N := by omega
  have key : ∀ (n : ℕ) (h : n < cfg0.N) (l : S1x512x1024.Idx), n = 16 * b.val + s.val / 512 → l = ix3 0 ⟨s.val % 512, by omega⟩ d →
      (Pipeline.accAt (fun n h => stAt0 m c n h junk0) (stAt0 m c) 0 n (by omega)).1 l
        = yG (aX m c) (aG1 m c) (aG2 m c) (aWu m c) (aCW m c) (aCB m c) (aWd m c) b s d := by
    intro n h l hn hl
    subst hl
    rw [← outsAt0_sweep m c n h]
    refine (point m c ⟨n, h⟩ ⟨s.val % 512, by omega⟩ d).trans ?_
    have hb : bOf ⟨n, h⟩ = b := Fin.ext (by show n / 16 = b.val; omega)
    have hs : rowOf (qOf ⟨n, h⟩) ⟨s.val % 512, by omega⟩ = s := Fin.ext (by show n % 16 * 512 + s.val % 512 = s.val; omega)
    rw [hb, hs]
  unfold G8
  rw [dif_pos (by rw [hp]; exact hlt)]
  exact key _ (by rw [hp]; omega) _ hp (by idx_ext <;> first | rfl | omega)

/-- The array of the two last rows, entry by entry. -/
theorem tail_at (c : Dev nD) (b : Fin 4) (i : Fin 2) (f : Fin 3072) :
    (G9 m c : FVec Ideal S4x2x3072 .f32) (ix3 b i f) = uPad (aX m c) (aG1 m c) (aWu m c) b (8192 + i) f := by
  have hN : cfg0.N = 64 := N_0
  have hp : pt9Of (ix3 b i f : S4x2x3072.Idx) = 16 * b.val + 15 := by
    show 16 * (1 * (b.val / 1 - 0) + 1 * (i.val / 2 - 0) + 1 * (f.val / 3072 - 0)) + 15 = _; omega
  have key : ∀ (n : ℕ) (h : n < cfg0.N) (l : S1x2x3072.Idx), n = 16 * b.val + 15 → l = ix3 0 i f →
      (Pipeline.accAt (fun n h => stAt0 m c n h junk0) (stAt0 m c) 0 n (by omega)).2.1 l
        = uPad (aX m c) (aG1 m c) (aWu m c) b (8192 + i) f := by
    intro n h l hn hl
    subst hl
    rw [← outsAt0_sweep m c n h]
    have e := congrFun (tailB m c ⟨n, h⟩ (by show ¬ n % 16 = 0; omega) (by show 1 ≤ n % 16; omega)) (ix3 0 i f)
    refine e.trans ?_
    have hb : bOf ⟨n, h⟩ = b := Fin.ext (by show n / 16 = b.val; omega)
    have hq : qOf ⟨n, h⟩ = (15 : Fin 16) := Fin.ext (by show n % 16 = 15; omega)
    rw [uPad_row (aX m c) (aG1 m c) (aWu m c) b 15 ⟨510 + i.val, by omega⟩ f _ (by show 8192 + i.val = 15 * 512 + (510 + i.val) + 2; omega)]
    show uG _ _ _ (bOf ⟨n, h⟩) (rowOf (qOf ⟨n, h⟩) ⟨510 + i.val, _⟩) _ = _
    rw [hb, hq]
    rfl
  unfold G9
  rw [dif_pos (by rw [hp]; omega)]
  exact key _ (by rw [hp]; omega) _ hp (by idx_ext <;> first | rfl | omega)

end Cert.FfnTile
end
end
-- ==== Proof.FfnRead.lean ====
module
public import proofs.«01_k».proof.Proof.FfnSpec
public import proofs.«01_k».proof.Proof.Gen.FfnRefIdeal.Run
public import proofs.«01_k».proof.Proof.Gen.FfnRefIdeal.Read
@[expose] public section
set_option maxRecDepth 16384
noncomputable section
namespace Cert.FfnRefTile
open Idealize.ShloMosaic Idealize.ShloMosaic.TcCoe Idealize.SL.Sem Cert.FfnRefIdeal Cert.FfnRefIdeal.Gen Cert.FfnRefIdeal.Read
open Cert.FfnTile (hS rmsS convS cdfS geluS uG uPad actG yG)
variable (X : FVec Ideal S4x8192x1024 .f32) (g1 g2 : FVec Ideal S1x1024 .f32) (Wu : FVec Ideal S1024x6144 .bf16)
  (CW : FVec Ideal S3x3072 .f32) (CB : FVec Ideal S1x3072 .f32) (Wd : FVec Ideal S3072x1024 .bf16)

/-! # The reference, entry by entry -/

/-- The up projection of the normalised rows. -/
theorem up_at (b : Fin 4) (s : Fin 8192) (f : Fin 6144) : val_main_v15 (F := Ideal) X g1 Wu (ix3 b s f) = uG X g1 Wu b s f := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1, uG, hS, rmsS]

/-- Its first half with two rows of zeros before it. -/
theorem pad_at (b : Fin 4) (n : Fin 8194) (f : Fin 3072) : val_main_v19 (F := Ideal) X g1 Wu (ix3 b n f) = uPad X g1 Wu b n f := by
  have e (s : Fin 8192) : val_main_v16 (F := Ideal) X g1 Wu (ix3 b s f) = uG X g1 Wu b s ⟨f, by omega⟩ := by
    rw [← up_at]
    pointwise [val_main_v16]
  unfold uPad
  by_cases h : (n : ℕ) < 2
  · rw [dif_neg (by omega)]
    pointwise [val_main_v19, val_main_v18, val_main_cst_2]
    rw [dif_pos h]
  · rw [dif_pos (by omega), ← e]
    pointwise [val_main_v19, val_main_v18, val_main_cst_2]
    rw [dif_neg h]

/-- The convolution. -/
theorem conv_at (b : Fin 4) (s : Fin 8192) (f : Fin 3072) : val_main_v43 (F := Ideal) X g1 Wu CW CB (ix3 b s f)
    = convS (CW (ix2 0 f)) (CW (ix2 1 f)) (CW (ix2 2 f)) (CB (ix2 0 f)) (uPad X g1 Wu b s f) (uPad X g1 Wu b (s + 1) f) (uPad X g1 Wu b (s + 2) f) := by
  have e0 := pad_at X g1 Wu b ⟨s, by omega⟩ f
  have e1 : val_main_v19 (F := Ideal) X g1 Wu (ix3 b ⟨1 + s, by omega⟩ f) = uPad X g1 Wu b (s + 1) f := by
    rw [pad_at, Nat.add_comm (s : ℕ) 1]
  have e2 : val_main_v19 (F := Ideal) X g1 Wu (ix3 b ⟨2 + s, by omega⟩ f) = uPad X g1 Wu b (s + 2) f := by
    rw [pad_at, Nat.add_comm (s : ℕ) 2]
  rw [← e0, ← e1, ← e2]
  pointwise [val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, convS]

/-- Convolution, GELU and gate. -/
theorem act_at (b : Fin 4) (s : Fin 8192) (f : Fin 3072) : val_main_v57 (F := Ideal) X g1 Wu CW CB (ix3 b s f) = actG X g1 Wu CW CB b s f := by
  unfold actG
  rw [← conv_at, ← up_at]
  pointwise [val_main_v44, val_main_v45, val_main_v46, val_main_v47, val_main_v48, val_main_v49, val_main_v50, val_main_v51, val_main_v52, val_main_v53, val_main_v54, val_main_v55, val_main_v56, val_main_v57, val_main_cst_3, val_main_cst_4, val_main_cst_5, val_main_cst_6, val_main_v17, geluS, cdfS]
  generalize val_main_v43 (F := Ideal) X g1 Wu CW CB (ix3 b s f) = x
  rw [mul_comm (x * x) x]

/-- The down projection. -/
theorem down_at (b : Fin 4) (s : Fin 8192) (d : Fin 1024) : val_main_v59 (F := Ideal) X g1 Wu CW CB Wd (ix3 b s d)
    = ∑ f : Fin 3072, actG X g1 Wu CW CB b s f * Wd (ix2 f d) := by
  simp only [← act_at]
  pointwise [val_main_v58, val_main_v59]

/-- The result. -/
theorem out_at (b : Fin 4) (s : Fin 8192) (d : Fin 1024) : val_main_v74 (F := Ideal) X g1 g2 Wu CW CB Wd (ix3 b s d)
    = yG X g1 g2 Wu CW CB Wd b s d := by
  unfold yG
  simp only [← down_at]
  pointwise [val_main_v60, val_main_v61, val_main_v62, val_main_v63, val_main_v64, val_main_v65, val_main_v66, val_main_v67, val_main_v68, val_main_v69, val_main_v70, val_main_v71, val_main_v72, val_main_v73, val_main_v74, val_main_cst_7, val_main_cst_8, val_main_cst_9, hS, rmsS]

/-- The last two rows of the first half of the up projection. -/
theorem tail_at (b : Fin 4) (i : Fin 2) (f : Fin 3072) : val_main_v75 (F := Ideal) X g1 Wu (ix3 b i f) = uPad X g1 Wu b (8192 + i) f := by
  have e := pad_at X g1 Wu b ⟨8192 + i, by omega⟩ f
  rw [← e]
  pointwise [val_main_v75]

end Cert.FfnRefTile
end
end
-- ==== Proof.FfnClaim.lean ====
module
public import proofs.«01_k».proof.Defs
public import proofs.«01_k».proof.Proof.FfnArr
public import proofs.«01_k».proof.Proof.FfnRead
public import Idealize.ShloMosaic.Lib.Quiescent
@[expose] public section
set_option maxRecDepth 16384
noncomputable section
namespace Cert.FfnClaim
open Idealize.ShloMosaic Idealize.ShloMosaic.TcCoe Idealize.SL.Sem
open Cert.FfnIdeal.Value (G8 G9)

variable (m : (ℓ : Loc Cert.FfnIdeal.nD Cert.FfnIdeal.τ Cert.FfnIdeal.sig) → Buf (Elt Ideal) ℓ)

/-- The reference's first result, over the kernel's arguments, is the kernel's first array. -/
theorem out_eq (c : Dev Cert.FfnIdeal.nD) :
    Cert.FfnRefIdeal.Read.val_main_v74 (F := Ideal) (Cert.FfnTile.aX m c) (Cert.FfnTile.aG1 m c) (Cert.FfnTile.aG2 m c) (Cert.FfnTile.aWu m c)
      (Cert.FfnTile.aCW m c) (Cert.FfnTile.aCB m c) (Cert.FfnTile.aWd m c) = G8 m c := by
  funext j
  idx_vars j
  exact (Cert.FfnRefTile.out_at _ _ _ _ _ _ _ _ _ _).trans (Cert.FfnTile.out_at m c _ _ _).symm

/-- The reference's second result, over the kernel's arguments, is the kernel's second array. -/
theorem tail_eq (c : Dev Cert.FfnIdeal.nD) :
    Cert.FfnRefIdeal.Read.val_main_v75 (F := Ideal) (Cert.FfnTile.aX m c) (Cert.FfnTile.aG1 m c) (Cert.FfnTile.aWu m c) = G9 m c := by
  funext j
  idx_vars j
  exact (Cert.FfnRefTile.tail_at _ _ _ _ _ _).trans (Cert.FfnTile.tail_at m c _ _ _).symm

/-- Every run of the kernel and every run of the reference leave the same two arrays. -/
theorem algebraic : Cert.algebraic_FfnIdeal_FfnRefIdeal := fun m g m' g' _ hag =>
  ⟨fun c => G8 m c, fun c => G9 m c, Cert.FfnIdeal.Value.run m g,
    (θ_run _ _ _).mono (fun r h c => ⟨(h c).1.trans (by
        obtain ⟨e0, e1, e2, e3, e4, e5, e6⟩ := hag c
        rw [Cert.FfnRefIdeal.Read.val_main_v74_eq, e0, e1, e2, e3, e4, e5, e6]
        exact out_eq m c), (h c).2.1.trans (by
        obtain ⟨e0, e1, e2, e3, e4, e5, e6⟩ := hag c
        rw [Cert.FfnRefIdeal.Read.val_main_v75_eq, e0, e1, e3]
        exact tail_eq m c), (h c).2.2⟩) (Cert.FfnRefIdeal.Value.run m' g')⟩

/-- Every run of the reference keeps its arguments; it has no semaphores. -/
theorem refFrame : Cert.quiescent_FfnRefIdeal := fun m g _ =>
  (θ_run _ _ _).mono (fun r h => ⟨fun c => (h c).2.2, sem_eq_zero_of_no_sems (by decide) r.2⟩) (Cert.FfnRefIdeal.Value.run m g)

end Cert.FfnClaim
end
end
-- ==== Proof.AttnSoft.lean ====
module
public import proofs.«01_k».proof.Proof.Gen.AttnIdeal.Skeleton
public import Idealize.ShloMosaic.Lib.Pointwise
@[expose] public section
noncomputable section
namespace Cert.AttnSoft
open Idealize.ShloMosaic

/-! # The sink softmax of one query -/

/-- The number subtracted from the scores: their largest, or the sink. -/
def mx {n : ℕ} (st : Fin n → EReal) (sk : EReal) : EReal := max (Finset.univ.fold max ⊥ st) sk
/-- The weight of one key before the division. -/
def ex {n : ℕ} (st : Fin n → EReal) (sk : EReal) (k : Fin n) : EReal := Ideal.exp (st k - mx st sk)
/-- The sum of the weights and the sink's. -/
def ls {n : ℕ} (st : Fin n → EReal) (sk : EReal) : EReal := (∑ k, ex st sk k) + Ideal.exp (sk - mx st sk)
/-- The weighted values, divided at the end. -/
def kout {n : ℕ} (st : Fin n → EReal) (sk : EReal) (v : Fin n → EReal) : EReal :=
  (∑ k, ex st sk k * v k) * Ideal.div 1 (ls st sk)
/-- The weighted values, the weights divided first. -/
def att {n : ℕ} (st : Fin n → EReal) (sk : EReal) (v : Fin n → EReal) : EReal :=
  ∑ k, Ideal.div (ex st sk k) (ls st sk) * v k

theorem exp_bot : Ideal.exp ⊥ = 0 := rfl
theorem bot_sub' (x : EReal) : (⊥ : EReal) - x = ⊥ := by rw [sub_eq_add_neg, EReal.bot_add]

theorem mx_bot {n : ℕ} (st : Fin n → EReal) : mx st ⊥ = Finset.univ.fold max ⊥ st := max_bot_right _
theorem ls_bot {n : ℕ} (st : Fin n → EReal) : ls st ⊥ = ∑ k, ex st ⊥ k := by
  unfold ls; rw [bot_sub', exp_bot, add_zero]

theorem fold_eq_sup {n : ℕ} (st : Fin n → EReal) : Finset.univ.fold max ⊥ st = Finset.univ.sup st := rfl

/-- Keys whose score is `⊥` change nothing. -/
theorem kout_pad (n p : ℕ) (st v : Fin (n + p) → EReal) (sk : EReal) (h : ∀ k, st (Fin.natAdd n k) = ⊥) :
    kout st sk v = kout (fun k => st (Fin.castAdd p k)) sk (fun k => v (Fin.castAdd p k)) := by
  have hm : mx st sk = mx (fun k => st (Fin.castAdd p k)) sk := by
    unfold mx
    congr 1
    rw [fold_eq_sup, fold_eq_sup]
    apply le_antisymm
    · refine Finset.sup_le fun k _ => ?_
      refine Fin.addCases (fun i => ?_) (fun i => ?_) k
      · exact Finset.le_sup (f := fun k => st (Fin.castAdd p k)) (Finset.mem_univ i)
      · rw [h]; exact bot_le
    · exact Finset.sup_le fun k _ => Finset.le_sup (f := st) (Finset.mem_univ _)
  have he : ∀ k, ex st sk (Fin.castAdd p k) = ex (fun k => st (Fin.castAdd p k)) sk k := fun k => by unfold ex; rw [hm]
  have h0 : ∀ k, ex st sk (Fin.natAdd n k) = 0 := fun k => by unfold ex; rw [h, bot_sub', exp_bot]
  have hl : ls st sk = ls (fun k => st (Fin.castAdd p k)) sk := by
    unfold ls; rw [Fin.sum_univ_add, hm]; simp only [he, h0, Finset.sum_const_zero, add_zero]
  unfold kout
  rw [Fin.sum_univ_add, hl]
  simp only [he, h0, zero_mul, Finset.sum_const_zero, add_zero]

theorem exp_coe (r : ℝ) : Ideal.exp (r : EReal) = ((Real.exp r : ℝ) : EReal) := rfl

theorem sum_coe {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

/-- A nonnegative number comes out of a sum. -/
theorem sum_mul_coe {n : ℕ} (f : Fin n → EReal) (r : ℝ) (hr : 0 ≤ r) : (∑ k, f k) * (r : EReal) = ∑ k, f k * (r : EReal) := by
  induction n with
  | zero => simp
  | succ n ih =>
    rw [Fin.sum_univ_succ, Fin.sum_univ_succ, ← ih]
    exact EReal.right_distrib_of_nonneg_of_ne_top (by exact_mod_cast hr) (EReal.coe_ne_top r) _ _

theorem fold_real {n : ℕ} [NeZero n] (st : Fin n → ℝ) : ∃ r : ℝ, Finset.univ.fold max ⊥ (fun k => ((st k : ℝ) : EReal)) = r := by
  rw [fold_eq_sup]
  obtain ⟨k, -, hk⟩ := Finset.exists_mem_eq_sup (Finset.univ : Finset (Fin n)) ⟨0, Finset.mem_univ _⟩ (fun k => ((st k : ℝ) : EReal))
  exact ⟨st k, hk⟩

/-- Over scores which are numbers, and a sink below `⊤`, dividing at the end is dividing first. -/
theorem kout_eq_att {n : ℕ} [NeZero n] (st : Fin n → EReal) (sk : EReal) (v : Fin n → EReal)
    (h : ∀ k, ∃ r : ℝ, st k = r) (hs : sk ≠ ⊤) : kout st sk v = att st sk v := by
  choose s hs' using h
  have hst : st = fun k => ((s k : ℝ) : EReal) := funext hs'
  subst hst
  obtain ⟨M, hM⟩ : ∃ M : ℝ, mx (fun k => ((s k : ℝ) : EReal)) sk = M := by
    obtain ⟨r, hr⟩ := fold_real s
    unfold mx
    rw [hr]
    induction sk with
    | bot => exact ⟨r, max_bot_right _⟩
    | top => exact absurd rfl hs
    | coe x => exact (max_choice (r : EReal) (x : EReal)).elim (fun h => ⟨r, h⟩) fun h => ⟨x, h⟩
  have hE : ∀ k, ex (fun k => ((s k : ℝ) : EReal)) sk k = ((Real.exp (s k - M) : ℝ) : EReal) := fun k => by
    unfold ex; rw [hM, ← EReal.coe_sub, exp_coe]
  obtain ⟨x, hx0, hx⟩ : ∃ x : ℝ, 0 ≤ x ∧ Ideal.exp (sk - M) = (x : EReal) := by
    induction sk with
    | bot => exact ⟨0, le_rfl, by rw [bot_sub', exp_bot, EReal.coe_zero]⟩
    | top => exact absurd rfl hs
    | coe y => exact ⟨Real.exp (y - M), (Real.exp_pos _).le, by rw [← EReal.coe_sub, exp_coe]⟩
  obtain ⟨L, hL0, hL⟩ : ∃ L : ℝ, 0 < L ∧ ls (fun k => ((s k : ℝ) : EReal)) sk = (L : EReal) := by
    refine ⟨(∑ k, Real.exp (s k - M)) + x, ?_, ?_⟩
    · have : 0 < ∑ k, Real.exp (s k - M) := Finset.sum_pos (fun k _ => Real.exp_pos _) ⟨0, Finset.mem_univ _⟩
      linarith
    · unfold ls; simp only [hE]; rw [sum_coe, hM, hx, ← EReal.coe_add]
  have hL' : (L : EReal) ≠ 0 := by exact_mod_cast hL0.ne'
  unfold kout att
  rw [hL]
  simp only [Ideal.div, if_neg hL', hE, one_mul]
  rw [← EReal.coe_inv, sum_mul_coe _ _ (inv_nonneg.mpr hL0.le)]
  refine Finset.sum_congr rfl fun k _ => ?_
  rw [mul_assoc, mul_assoc, mul_comm (v k)]

/-! # The score of one query and one key -/

/-- The product of a query and a key, scaled, and the bias. -/
def sc (q k : Fin 64 → EReal) (b : EReal) : EReal := (∑ d, q d * k d) * ((1 / 8 : ℝ) : EReal) + b

abbrev lo (d : Fin 64) : Fin 128 := ⟨d, by omega⟩
abbrev hi (d : Fin 64) : Fin 128 := ⟨64 + d, by omega⟩

theorem sum_half (f : Fin 128 → EReal) : ∑ l, f l = (∑ d, f (lo d)) + ∑ d, f (hi d) := Fin.sum_univ_add (a := 64) (b := 64) f

theorem sc_lo (Q K : Fin 128 → EReal) (b : EReal) :
    (∑ l : Fin 128, if (l : ℕ) < 64 then Q l * ((1 / 8 : ℝ) : EReal) * K l else 0) + b = sc (fun d => Q (lo d)) (fun d => K (lo d)) b := by
  unfold sc
  rw [sum_half, sum_mul_coe _ _ (by norm_num)]
  have h1 : ∀ d : Fin 64, (if (lo d : ℕ) < 64 then Q (lo d) * ((1 / 8 : ℝ) : EReal) * K (lo d) else 0) = Q (lo d) * K (lo d) * ((1 / 8 : ℝ) : EReal) :=
    fun d => by rw [if_pos d.isLt, mul_right_comm]
  have h2 : ∀ d : Fin 64, (if (hi d : ℕ) < 64 then Q (hi d) * ((1 / 8 : ℝ) : EReal) * K (hi d) else 0) = 0 :=
    fun d => by rw [if_neg (by show ¬ 64 + (d : ℕ) < 64; omega)]
  simp only [h1, h2, Finset.sum_const_zero, add_zero]

theorem sc_hi (Q K : Fin 128 → EReal) (b : EReal) :
    (∑ l : Fin 128, if (l : ℕ) < 64 then 0 else Q l * ((1 / 8 : ℝ) : EReal) * K l) + b = sc (fun d => Q (hi d)) (fun d => K (hi d)) b := by
  unfold sc
  rw [sum_half, sum_mul_coe _ _ (by norm_num)]
  have h1 : ∀ d : Fin 64, (if (lo d : ℕ) < 64 then 0 else Q (lo d) * ((1 / 8 : ℝ) : EReal) * K (lo d)) = 0 :=
    fun d => by rw [if_pos d.isLt]
  have h2 : ∀ d : Fin 64, (if (hi d : ℕ) < 64 then 0 else Q (hi d) * ((1 / 8 : ℝ) : EReal) * K (hi d)) = Q (hi d) * K (hi d) * ((1 / 8 : ℝ) : EReal) :=
    fun d => by rw [if_neg (by show ¬ 64 + (d : ℕ) < 64; omega), mul_right_comm]
  simp only [h1, h2, Finset.sum_const_zero, zero_add]

theorem real_sum {n : ℕ} (f : Fin n → EReal) (h : ∀ k, ∃ r : ℝ, f k = r) : ∃ r : ℝ, (∑ k, f k) = r := by
  choose s hs using h
  exact ⟨∑ k, s k, by rw [← sum_coe]; exact Finset.sum_congr rfl fun k _ => hs k⟩

theorem sc_real (q k : Fin 64 → EReal) (b : EReal) (hq : ∀ d, ∃ r : ℝ, q d = r) (hk : ∀ d, ∃ r : ℝ, k d = r) (hb : ∃ r : ℝ, b = r) :
    ∃ r : ℝ, sc q k b = r := by
  obtain ⟨S, hS⟩ := real_sum (fun d => q d * k d) fun d => by
    obtain ⟨x, hx⟩ := hq d; obtain ⟨y, hy⟩ := hk d; exact ⟨x * y, by rw [hx, hy, EReal.coe_mul]⟩
  obtain ⟨y, hy⟩ := hb
  exact ⟨S * (1 / 8) + y, by unfold sc; rw [hS, hy, ← EReal.coe_mul, ← EReal.coe_add]⟩

theorem sc_bot (q k : Fin 64 → EReal) : sc q k ⊥ = ⊥ := EReal.add_bot _

theorem eighth : Ideal.ofBits .f32 0x3E000000#32 = ((1 / 8 : ℝ) : EReal) := by
  simp [Ideal.ofBits, Ideal.ieee, -EReal.coe_mul]; norm_num
theorem infB : Ideal.ofBits .f32 0xFF800000#32 = ⊥ := by
  simp [Ideal.ofBits, Ideal.ieee]
theorem one_eq : Ideal.ofBits .f32 0x3F800000#32 = 1 := by
  simp [Ideal.ofBits, Ideal.ieee, -EReal.coe_mul]; norm_num

end Cert.AttnSoft
end
end
-- ==== Proof.AttnTile.lean ====
module
public import proofs.«01_k».proof.Proof.Gen.AttnIdeal.Value
public import proofs.«01_k».proof.Proof.Gen.AttnRefIdeal.Run
public import proofs.«01_k».proof.Proof.Gen.AttnRefIdeal.Read
public import proofs.«01_k».proof.Proof.AttnSoft
public import Idealize.ShloMosaic.Lib.Pointwise
public import Idealize.ShloMosaic.Lib.WordCmp
public import Idealize.ShloMosaic.Lib.Pipeline.ValueKit
public import Idealize.ShloMosaic.Lib.Pipeline.ReadBack
@[expose] public section
set_option maxRecDepth 16384
noncomputable section
namespace Cert.AttnTile
open Idealize.ShloMosaic Idealize.ShloMosaic.TcCoe Idealize.SL.Sem Cert.AttnIdeal Cert.AttnIdeal.Gen Cert.AttnSoft

/-! # The payloads, entry by entry -/

theorem selLo {α : Type} (x : ℕ) (hx : x < 128) (a b : α) :
    Scalar.select (IntOp.cmpi CmpIPredicate.slt (BitVec.ofNat 32 x) 64#32) a b = if x < 64 then a else b := by
  have h : IntOp.cmpi CmpIPredicate.slt (BitVec.ofNat 32 x) 64#32 = BitVec.ofBool (decide (x < 64)) := by
    exact WordCmp.cmpi_slt_ofNat (w := 32) (a := x) (b := 64) (by omega) (by norm_num)
  unfold Scalar.select
  rw [h]
  by_cases hh : x < 64 <;> simp [hh]

theorem selTop {α : Type} (x : ℕ) (hx : x < 32) (a b : α) :
    Scalar.select (IntOp.cmpi CmpIPredicate.slt (BitVec.ofNat 32 x) 16#32) a b = if x < 16 then a else b := by
  have h : IntOp.cmpi CmpIPredicate.slt (BitVec.ofNat 32 x) 16#32 = BitVec.ofBool (decide (x < 16)) := by
    exact WordCmp.cmpi_slt_ofNat (w := 32) (a := x) (b := 16) (by omega) (by norm_num)
  unfold Scalar.select
  rw [h]
  by_cases hh : x < 16 <;> simp [hh]

abbrev up (i : Fin 16) : Fin 32 := ⟨i, by omega⟩
abbrev dn (i : Fin 16) : Fin 32 := ⟨16 + i, by omega⟩
/-- The lane of the other half. -/
abbrev rot (c : Fin 128) : Fin 128 := ⟨(c + 128 - 64) % 128, Nat.mod_lt _ (by norm_num)⟩

theorem sum256 (f : Fin 256 → EReal) : ∑ k, f k = (∑ k : Fin 128, f ⟨k, by omega⟩) + ∑ k : Fin 128, f ⟨128 + k, by omega⟩ :=
  Fin.sum_univ_add (a := 128) (b := 128) f
theorem sum640 (f : Fin 640 → EReal) : ∑ k, f k = (∑ k : Fin 128, f ⟨k, by omega⟩) + ∑ k : Fin 512, f ⟨128 + k, by omega⟩ :=
  Fin.sum_univ_add (a := 128) (b := 512) f

theorem koutA (st : Fin 256 → EReal) (sk : EReal) (v : Fin 256 → EReal) : kout st sk v =
    ((∑ k : Fin 128, Ideal.exp (st ⟨k, by omega⟩ - max (Finset.univ.fold max ⊥ st) sk) * v ⟨k, by omega⟩)
      + ∑ k : Fin 128, Ideal.exp (st ⟨128 + k, by omega⟩ - max (Finset.univ.fold max ⊥ st) sk) * v ⟨128 + k, by omega⟩)
      * Ideal.div 1 ((∑ k, Ideal.exp (st k - max (Finset.univ.fold max ⊥ st) sk)) + Ideal.exp (sk - max (Finset.univ.fold max ⊥ st) sk)) := by
  unfold kout; rw [sum256]; rfl
theorem koutB (st : Fin 640 → EReal) (v : Fin 640 → EReal) : kout st ⊥ v =
    ((∑ k : Fin 128, Ideal.exp (st ⟨k, by omega⟩ - Finset.univ.fold max ⊥ st) * v ⟨k, by omega⟩)
      + ∑ k : Fin 512, Ideal.exp (st ⟨128 + k, by omega⟩ - Finset.univ.fold max ⊥ st) * v ⟨128 + k, by omega⟩)
      * Ideal.div 1 (∑ k, Ideal.exp (st k - Finset.univ.fold max ⊥ st)) := by
  unfold kout; rw [sum640, ls_bot]; unfold ex; rw [mx_bot]
theorem koutB' (st : Fin 640 → EReal) (v : Fin 640 → EReal) : kout st ⊥ v =
    (∑ k, Ideal.exp (st k - Finset.univ.fold max ⊥ st) * v k) * Ideal.div 1 (∑ k, Ideal.exp (st k - Finset.univ.fold max ⊥ st)) := by
  unfold kout; rw [ls_bot]; unfold ex; rw [mx_bot]

/-- The switch that never is on. -/
abbrev nev : IVec S16x128 1 := fun _ => 0#1
theorem selNev {α : Type} (a b : α) : Scalar.select 0#1 a b = b := rfl

theorem selTopU {α : Type} (i : Fin 16) (a b : α) : Scalar.select (IntOp.cmpi CmpIPredicate.slt (BitVec.ofNat 32 (i : ℕ)) 16#32) a b = a := by
  rw [selTop _ (by omega), if_pos i.isLt]
theorem selTopD {α : Type} (i : Fin 16) (a b : α) : Scalar.select (IntOp.cmpi CmpIPredicate.slt (BitVec.ofNat 32 (16 + (i : ℕ))) 16#32) a b = b := by
  rw [selTop _ (by omega), if_neg (by omega)]

variable (V : Vec Ideal S256x128 .bf16) (st : FVec Ideal S32x256 .f32) (sk : FVec Ideal S32x1 .f32) (i : Fin 16) (c : Fin 128)

/-- Rows `r` of the scores against lane `c` of the values. -/
abbrev oA (s : EReal) (r : Fin 32) (c : Fin 128) : EReal := kout (fun k => st (ix2 r k)) s (fun k => V (ix2 k c))

theorem pay38_at (s0 s1 : EReal) :
    k0_pay38 k0_pay20 V st (fun _ => 0) (k0_pay37 k0_pay21 s0 s1) (ix2 i c) = if (c : ℕ) < 64 then oA V st s0 (up i) c else oA V st s1 (dn i) (rot c) := by
  pointwise [k0_pay38, k0_pay37, k0_pay20, k0_pay21]
  rw [selLo _ c.isLt]
  simp only [selTopU, selTopD, infB, add_zero]
  by_cases hc : (c : ℕ) < 64
  · rw [if_pos hc, if_pos hc]; refine Eq.trans ?_ (koutA _ _ _).symm; rfl
  · rw [if_neg hc, if_neg hc]; rfl

theorem pay34_at (K : Vec Ideal S256x128 .bf16) (v0 : Vec Ideal S16x4352 .f32) (q : FVec Ideal S32x128 .f32) (b0 b1 : FVec Ideal S16x256 .f32) (c0 c1 : Vec Ideal S1x16x256 .f32) (s0 s1 : EReal) :
    k0_pay34 k0_pay20 V (k0_pay30 k0_pay21 K q b0 b1 s0 s1) (k0_pay31 k0_pay21 K q b0 b1 s0 s1) (k0_pay32 v0 k0_pay20 k0_pay21 nev K q b0 b1 c0 c1 s0 s1) (k0_pay33 k0_pay21 K q b0 b1 s0 s1) (ix2 i c)
      = if (c : ℕ) < 64 then oA V (k0_pay26 K q b0 b1) s0 (up i) c else oA V (k0_pay26 K q b0 b1) s1 (dn i) (rot c) := by
  generalize hst : k0_pay26 K q b0 b1 = st
  pointwise [k0_pay34, k0_pay33, k0_pay32, k0_pay31, k0_pay30, k0_pay29, k0_pay28, k0_pay20, k0_pay21, hst]
  rw [selLo _ c.isLt]
  simp only [selTopU, selTopD, infB, add_zero]
  by_cases hc : (c : ℕ) < 64
  · rw [if_pos hc, if_pos hc]; refine Eq.trans ?_ (koutA _ _ _).symm; rfl
  · rw [if_neg hc, if_neg hc]; rfl

theorem pay42_at (K : Vec Ideal S256x128 .bf16) (b : FVec Ideal S32x256 .f32) (q : FVec Ideal S32x128 .bf16) (s0 s1 : EReal) :
    k0_pay42 k0_pay20 k0_pay21 nev K V st b q s0 s1 (ix2 i c) = if (c : ℕ) < 64 then oA V st s0 (up i) (rot c) else oA V st s1 (dn i) c := by
  pointwise [k0_pay42, k0_pay20, k0_pay21]
  rw [selLo _ c.isLt]
  simp only [selTopU, selTopD, infB, add_zero]
  by_cases hc : (c : ℕ) < 64
  · rw [if_pos hc, if_pos hc]; refine Eq.trans ?_ (koutA _ _ _).symm; rfl
  · rw [if_neg hc, if_neg hc]; rfl

theorem pay50_at (b0 b1 : Vec Ideal S1x16x640 .f32) (q0 q1 : FVec Ideal S16x128 .f32) (K : Vec Ideal S640x128 .bf16) (s0 s1 : EReal) :
    k0_pay50 k0_pay20 (k0_pay48 k0_pay21 nev V st q0 q1 b0 b1 K s0 s1) (k0_pay49 k0_pay21 nev V st q0 q1 b0 b1 K s0 s1) 64#32 (ix2 i c)
      = if (c : ℕ) < 64 then oA V st s0 (up i) (rot c) else oA V st s1 (dn i) c := by
  pointwise [k0_pay50, k0_pay48, k0_pay49, k0_pay47, k0_pay20, k0_pay21]
  rw [selLo _ c.isLt]
  simp only [selTopU, selTopD, infB, add_zero]
  by_cases hc : (c : ℕ) < 64
  · rw [if_pos hc, if_pos hc]; refine Eq.trans ?_ (koutA _ _ _).symm; rfl
  · rw [if_neg hc, if_neg hc]; rfl

/-- Rows `r` of the scores against lane `c` of the values, without a sink. -/
abbrev oB (V : Vec Ideal S640x128 .bf16) (st : FVec Ideal S32x640 .f32) (r : Fin 32) (c : Fin 128) : EReal := kout (fun k => st (ix2 r k)) ⊥ (fun k => V (ix2 k c))

section
variable (V K : Vec Ideal S640x128 .bf16) (st : FVec Ideal S32x640 .f32) (v0 : Vec Ideal S16x4352 .f32) (b0 b1 : Vec Ideal S1x16x640 .f32)

theorem pay55_at : k0_pay55 k0_pay20 (k0_pay53 st) (k0_pay54 v0 k0_pay20 nev st b0 b1 K V) (ix2 i c) = if (c : ℕ) < 64 then oB V st (up i) c else oB V st (dn i) c := by
  pointwise [k0_pay55, k0_pay53, k0_pay54, k0_pay52, k0_pay20]
  rw [selLo _ c.isLt]
  simp only [infB, add_zero]
  by_cases hc : (c : ℕ) < 64
  · rw [if_pos hc, if_pos hc]; refine Eq.trans ?_ (koutB _ _).symm; rfl
  · rw [if_neg hc, if_neg hc]; refine Eq.trans ?_ (koutB' _ _).symm; rfl
theorem pay61_at : k0_pay61 k0_pay20 V (k0_pay57 st) (k0_pay58 st) (k0_pay59 v0 k0_pay20 nev st b0 b1 K) (k0_pay60 st) (ix2 i c) = if (c : ℕ) < 64 then oB V st (up i) c else oB V st (dn i) c := by
  pointwise [k0_pay61, k0_pay57, k0_pay58, k0_pay59, k0_pay60, k0_pay20]
  rw [selLo _ c.isLt]
  simp only [infB, add_zero]
  by_cases hc : (c : ℕ) < 64
  · rw [if_pos hc, if_pos hc]; refine Eq.trans ?_ (koutB _ _).symm; rfl
  · rw [if_neg hc, if_neg hc]; refine Eq.trans ?_ (koutB' _ _).symm; rfl
theorem pay65_at : k0_pay65 k0_pay20 (k0_pay63 v0 k0_pay20 nev b0 b1 K) V (k0_pay64 st) (ix2 i c) = if (c : ℕ) < 64 then oB V st (up i) c else oB V st (dn i) c := by
  pointwise [k0_pay65, k0_pay63, k0_pay64, k0_pay20]
  rw [selLo _ c.isLt]
  simp only [infB, add_zero]
  by_cases hc : (c : ℕ) < 64
  · rw [if_pos hc, if_pos hc]; refine Eq.trans ?_ (koutB _ _).symm; rfl
  · rw [if_neg hc, if_neg hc]; refine Eq.trans ?_ (koutB' _ _).symm; rfl
theorem pay66_at : k0_pay66 k0_pay20 st V (ix2 i c) = if (c : ℕ) < 64 then oB V st (up i) c else oB V st (dn i) c := by
  pointwise [k0_pay66, k0_pay20]
  rw [selLo _ c.isLt]
  simp only [infB, add_zero]
  by_cases hc : (c : ℕ) < 64
  · rw [if_pos hc, if_pos hc]; refine Eq.trans ?_ (koutB' _ _).symm; rfl
  · rw [if_neg hc, if_neg hc]; refine Eq.trans ?_ (koutB' _ _).symm; rfl
end

theorem pay36_eq (v0 : Vec Ideal S16x4352 .f32) (K : Vec Ideal S256x128 .bf16) (b0 b1 : Vec Ideal S1x16x256 .f32) :
    k0_pay36 v0 k0_pay20 nev K b0 b1 = fun _ => 0 := by
  funext j; idx_vars j; pointwise [k0_pay36]
theorem never_eq : k0_pay22 (F := Ideal) (fun _ => 0#32) = nev := by
  funext j; idx_vars j; pointwise [k0_pay22]; rfl

/-! # The scores -/

/-- The 64 lanes of a query. -/
abbrev qv (v0 : Vec Ideal S16x4352 .f32) (i : Fin 16) (o : ℕ) (ho : o ≤ 4288) (e : Fin 64) : EReal := v0 (ix2 i ⟨o + e, by omega⟩)

theorem sel128 {α : Type} (x : Fin 128) (a b : α) :
    Scalar.select (IntOp.cmpi CmpIPredicate.slt (BitVec.ofNat 32 (x : ℕ)) 64#32) a b = if (x : ℕ) < 64 then a else b := selLo _ x.isLt a b
theorem dif_pos_u {α : Type} (i : Fin 16) (a : (i : ℕ) < 16 → α) (b : ¬ (i : ℕ) < 16 → α) : (if h : (i : ℕ) < 16 then a h else b h) = a i.isLt := dif_pos _
theorem dif_neg_d {α : Type} (i : Fin 16) (a : 16 + (i : ℕ) < 16 → α) (b : ¬ 16 + (i : ℕ) < 16 → α) : (if h : 16 + (i : ℕ) < 16 then a h else b h) = b (by omega) := dif_neg _

theorem st0_u (v0 : Vec Ideal S16x4352 .f32) (K : Vec Ideal S256x128 .bf16) (b0 b1 : Vec Ideal S1x16x256 .f32) (i : Fin 16) (k : Fin 256) :
    k0_pay26 K (k0_pay23 v0) (k0_pay24 b0) (k0_pay25 b1) (ix2 (up i) k) = sc (qv v0 i 0 (by norm_num)) (fun e => K (ix2 k (lo e))) (b0 (ix3 0 i k)) := by
  pointwise [k0_pay26, k0_pay23, k0_pay24, k0_pay25, k0_pay20]
  simp only [dif_pos_u, sel128, eighth]
  refine (sc_lo _ _ _).trans ?_
  congr 1
  all_goals (funext e; blk_ext)

theorem st0_d (v0 : Vec Ideal S16x4352 .f32) (K : Vec Ideal S256x128 .bf16) (b0 b1 : Vec Ideal S1x16x256 .f32) (i : Fin 16) (k : Fin 256) :
    k0_pay26 K (k0_pay23 v0) (k0_pay24 b0) (k0_pay25 b1) (ix2 (dn i) k) = sc (qv v0 i 64 (by norm_num)) (fun e => K (ix2 k (lo e))) (b1 (ix3 0 i k)) := by
  pointwise [k0_pay26, k0_pay23, k0_pay24, k0_pay25, k0_pay20]
  simp only [dif_neg_d, sel128, eighth]
  refine (sc_lo _ _ _).trans ?_
  congr 1
  all_goals (funext e; blk_ext)

theorem st1_u (v0 : Vec Ideal S16x4352 .f32) (K : Vec Ideal S256x128 .bf16) (b0 b1 : Vec Ideal S1x16x256 .f32) (i : Fin 16) (k : Fin 256) :
    k0_pay27 v0 k0_pay20 K b0 b1 (ix2 (up i) k) = sc (qv v0 i 128 (by norm_num)) (fun e => K (ix2 k (lo e))) (b0 (ix3 0 i k)) := by
  pointwise [k0_pay27, k0_pay20]
  simp only [dif_pos_u, sel128, eighth]
  refine (sc_lo _ _ _).trans ?_
  congr 1
  all_goals (funext e; blk_ext)

theorem st1_d (v0 : Vec Ideal S16x4352 .f32) (K : Vec Ideal S256x128 .bf16) (b0 b1 : Vec Ideal S1x16x256 .f32) (i : Fin 16) (k : Fin 256) :
    k0_pay27 v0 k0_pay20 K b0 b1 (ix2 (dn i) k) = sc (qv v0 i 192 (by norm_num)) (fun e => K (ix2 k (lo e))) (b1 (ix3 0 i k)) := by
  pointwise [k0_pay27, k0_pay20]
  simp only [dif_neg_d, sel128, eighth]
  refine (sc_lo _ _ _).trans ?_
  congr 1
  all_goals (funext e; blk_ext)

theorem st2_u (v0 : Vec Ideal S16x4352 .f32) (K : Vec Ideal S256x128 .bf16) (b0 b1 : Vec Ideal S1x16x256 .f32) (i : Fin 16) (k : Fin 256) :
    k0_pay35 v0 k0_pay20 K b0 b1 (ix2 (up i) k) = sc (qv v0 i 256 (by norm_num)) (fun e => K (ix2 k (hi e))) (b0 (ix3 0 i k)) := by
  pointwise [k0_pay35, k0_pay20]
  simp only [dif_pos_u, sel128, eighth]
  refine (sc_hi _ _ _).trans ?_
  congr 1
  all_goals (funext e; blk_ext)

theorem st2_d (v0 : Vec Ideal S16x4352 .f32) (K : Vec Ideal S256x128 .bf16) (b0 b1 : Vec Ideal S1x16x256 .f32) (i : Fin 16) (k : Fin 256) :
    k0_pay35 v0 k0_pay20 K b0 b1 (ix2 (dn i) k) = sc (qv v0 i 320 (by norm_num)) (fun e => K (ix2 k (hi e))) (b1 (ix3 0 i k)) := by
  pointwise [k0_pay35, k0_pay20]
  simp only [dif_neg_d, sel128, eighth]
  refine (sc_hi _ _ _).trans ?_
  congr 1
  all_goals (funext e; blk_ext)

theorem st3_u (v0 : Vec Ideal S16x4352 .f32) (K : Vec Ideal S256x128 .bf16) (b0 b1 : Vec Ideal S1x16x256 .f32) (i : Fin 16) (k : Fin 256) :
    k0_pay41 K (k0_pay39 b0 b1) (k0_pay40 v0 k0_pay20) (ix2 (up i) k) = sc (qv v0 i 384 (by norm_num)) (fun e => K (ix2 k (hi e))) (b0 (ix3 0 i k)) := by
  pointwise [k0_pay41, k0_pay39, k0_pay40, k0_pay20]
  simp only [dif_pos_u, sel128, eighth]
  refine (sc_hi _ _ _).trans ?_
  congr 1
  all_goals (funext e; blk_ext)

theorem st3_d (v0 : Vec Ideal S16x4352 .f32) (K : Vec Ideal S256x128 .bf16) (b0 b1 : Vec Ideal S1x16x256 .f32) (i : Fin 16) (k : Fin 256) :
    k0_pay41 K (k0_pay39 b0 b1) (k0_pay40 v0 k0_pay20) (ix2 (dn i) k) = sc (qv v0 i 448 (by norm_num)) (fun e => K (ix2 k (hi e))) (b1 (ix3 0 i k)) := by
  pointwise [k0_pay41, k0_pay39, k0_pay40, k0_pay20]
  simp only [dif_neg_d, sel128, eighth]
  refine (sc_hi _ _ _).trans ?_
  congr 1
  all_goals (funext e; blk_ext)

theorem sb0_u (v0 : Vec Ideal S16x4352 .f32) (K : Vec Ideal S640x128 .bf16) (b0 b1 : Vec Ideal S1x16x640 .f32) (i : Fin 16) (k : Fin 640) :
    k0_pay46 (k0_pay44 v0 k0_pay20) (k0_pay45 v0 k0_pay20) b0 b1 K (ix2 (up i) k) = sc (qv v0 i 768 (by norm_num)) (fun e => K (ix2 k (lo e))) (b0 (ix3 0 i k)) := by
  pointwise [k0_pay46, k0_pay44, k0_pay45, k0_pay43, k0_pay20]
  simp only [dif_pos_u, sel128, eighth]
  refine (sc_lo _ _ _).trans ?_
  congr 1
  all_goals (funext e; blk_ext)

theorem sb0_d (v0 : Vec Ideal S16x4352 .f32) (K : Vec Ideal S640x128 .bf16) (b0 b1 : Vec Ideal S1x16x640 .f32) (i : Fin 16) (k : Fin 640) :
    k0_pay46 (k0_pay44 v0 k0_pay20) (k0_pay45 v0 k0_pay20) b0 b1 K (ix2 (dn i) k) = sc (qv v0 i 832 (by norm_num)) (fun e => K (ix2 k (hi e))) (b1 (ix3 0 i k)) := by
  pointwise [k0_pay46, k0_pay44, k0_pay45, k0_pay43, k0_pay20]
  simp only [dif_neg_d, sel128, eighth]
  refine (sc_hi _ _ _).trans ?_
  congr 1
  all_goals (funext e; blk_ext)

theorem sb1_u (v0 : Vec Ideal S16x4352 .f32) (K : Vec Ideal S640x128 .bf16) (b0 b1 : Vec Ideal S1x16x640 .f32) (i : Fin 16) (k : Fin 640) :
    k0_pay51 v0 k0_pay20 b0 b1 K (ix2 (up i) k) = sc (qv v0 i 896 (by norm_num)) (fun e => K (ix2 k (lo e))) (b0 (ix3 0 i k)) := by
  pointwise [k0_pay51, k0_pay20]
  simp only [dif_pos_u, sel128, eighth]
  refine (sc_lo _ _ _).trans ?_
  congr 1
  all_goals (funext e; blk_ext)

theorem sb1_d (v0 : Vec Ideal S16x4352 .f32) (K : Vec Ideal S640x128 .bf16) (b0 b1 : Vec Ideal S1x16x640 .f32) (i : Fin 16) (k : Fin 640) :
    k0_pay51 v0 k0_pay20 b0 b1 K (ix2 (dn i) k) = sc (qv v0 i 960 (by norm_num)) (fun e => K (ix2 k (hi e))) (b1 (ix3 0 i k)) := by
  pointwise [k0_pay51, k0_pay20]
  simp only [dif_neg_d, sel128, eighth]
  refine (sc_hi _ _ _).trans ?_
  congr 1
  all_goals (funext e; blk_ext)

theorem sb2_u (v0 : Vec Ideal S16x4352 .f32) (K : Vec Ideal S640x128 .bf16) (b0 b1 : Vec Ideal S1x16x640 .f32) (i : Fin 16) (k : Fin 640) :
    k0_pay56 v0 k0_pay20 b0 b1 K (ix2 (up i) k) = sc (qv v0 i 1024 (by norm_num)) (fun e => K (ix2 k (lo e))) (b0 (ix3 0 i k)) := by
  pointwise [k0_pay56, k0_pay20]
  simp only [dif_pos_u, sel128, eighth]
  refine (sc_lo _ _ _).trans ?_
  congr 1
  all_goals (funext e; blk_ext)

theorem sb2_d (v0 : Vec Ideal S16x4352 .f32) (K : Vec Ideal S640x128 .bf16) (b0 b1 : Vec Ideal S1x16x640 .f32) (i : Fin 16) (k : Fin 640) :
    k0_pay56 v0 k0_pay20 b0 b1 K (ix2 (dn i) k) = sc (qv v0 i 1088 (by norm_num)) (fun e => K (ix2 k (hi e))) (b1 (ix3 0 i k)) := by
  pointwise [k0_pay56, k0_pay20]
  simp only [dif_neg_d, sel128, eighth]
  refine (sc_hi _ _ _).trans ?_
  congr 1
  all_goals (funext e; blk_ext)

theorem sb3_u (v0 : Vec Ideal S16x4352 .f32) (K : Vec Ideal S640x128 .bf16) (b0 b1 : Vec Ideal S1x16x640 .f32) (i : Fin 16) (k : Fin 640) :
    k0_pay62 v0 k0_pay20 b0 b1 K (ix2 (up i) k) = sc (qv v0 i 1152 (by norm_num)) (fun e => K (ix2 k (lo e))) (b0 (ix3 0 i k)) := by
  pointwise [k0_pay62, k0_pay20]
  simp only [dif_pos_u, sel128, eighth]
  refine (sc_lo _ _ _).trans ?_
  congr 1
  all_goals (funext e; blk_ext)

theorem sb3_d (v0 : Vec Ideal S16x4352 .f32) (K : Vec Ideal S640x128 .bf16) (b0 b1 : Vec Ideal S1x16x640 .f32) (i : Fin 16) (k : Fin 640) :
    k0_pay62 v0 k0_pay20 b0 b1 K (ix2 (dn i) k) = sc (qv v0 i 1216 (by norm_num)) (fun e => K (ix2 k (hi e))) (b1 (ix3 0 i k)) := by
  pointwise [k0_pay62, k0_pay20]
  simp only [dif_neg_d, sel128, eighth]
  refine (sc_hi _ _ _).trans ?_
  congr 1
  all_goals (funext e; blk_ext)

end Cert.AttnTile
end
end
-- ==== Proof.AttnCov.lean ====
module
public import proofs.«01_k».proof.Proof.Gen.AttnIdeal.Value
public import Idealize.ShloMosaic.Lib.Pointwise
public import Idealize.ShloMosaic.Lib.WordCmp
public import Idealize.ShloMosaic.Lib.Pipeline.ValueKit
public import Idealize.ShloMosaic.Lib.Pipeline.ReadBack
@[expose] public section
set_option maxRecDepth 16384
noncomputable section
namespace Cert.AttnTile
open Idealize.ShloMosaic Idealize.ShloMosaic.TcCoe Idealize.SL.Sem Cert.AttnIdeal Cert.AttnIdeal.Gen
open Idealize.ShloMosaic.Pipeline (Dat)

/-! # What the scratch buffers hold -/

theorem cov3 {s : Shape} {e : EltTy} (p0 p1 p2 : View.Piece (Elt Ideal) s e) (y : s.Idx) (h : y ∈ p2.1.set ∨ y ∈ p1.1.set ∨ y ∈ p0.1.set) :
    ∃ p ∈ [p0, p1, p2], y ∈ p.1.set := by
  rcases h with h | h | h
  exacts [⟨p2, by simp, h⟩, ⟨p1, by simp, h⟩, ⟨p0, by simp, h⟩]

theorem mem2 {n w o0 o1 s0 s1 : ℕ} {inb : ∀ a, (![o0, o1] : Fin 2 → ℕ) a + (![s0, s1] : Fin 2 → ℕ) a ≤ (![n, w] : Fin 2 → ℕ) a}
    (y : (⟨2, ![n, w]⟩ : Shape).Idx) (h0 : o0 ≤ (y 0 : ℕ)) (h0' : (y 0 : ℕ) < o0 + s0) (h1 : o1 ≤ (y 1 : ℕ)) (h1' : (y 1 : ℕ) < o1 + s1) :
    y ∈ (Rect.unit (s := ⟨2, ![n, w]⟩) ![o0, o1] ![s0, s1] inb).set :=
  Rect.mem_set_unit.mpr (Fin.forall_fin_two.mpr ⟨⟨h0, h0'⟩, ⟨h1, h1'⟩⟩)

/-- Cached rows, then the new rows, then padding. -/
def m256 (z : Vec Ideal S112x128 .bf16) (r : Vec Ideal S16x128 .bf16) (k : Vec Ideal S128x128 .bf16) (a : Fin 256) (b : Fin 128) : EReal :=
  if h : (a : ℕ) < 128 then k (ix2 ⟨a, h⟩ b) else if h2 : (a : ℕ) < 144 then r (ix2 ⟨a - 128, by omega⟩ b) else z (ix2 ⟨a - 144, by omega⟩ b)

theorem cover256 (z : Vec Ideal S112x128 .bf16) (r : Vec Ideal S16x128 .bf16) (k : Vec Ideal S128x128 .bf16) (y : S256x128.Idx) :
    ∃ p ∈ ([⟨Rect.unit ![144, 0] ![112, 128] inb_S256x128_S112x128_144_0, z⟩,
      ⟨Rect.unit ![128, 0] ![16, 128] inb_S256x128_S16x128_128_0, r⟩,
      ⟨Rect.unit ![0, 0] ![128, 128] inb_S256x128_S128x128_0_0, k⟩] : List (View.Piece (Elt Ideal) S256x128 .bf16)), y ∈ p.1.set := by
  have h0 : (y 0 : ℕ) < 256 := (y 0).isLt
  have h1 : (y 1 : ℕ) < 128 := (y 1).isLt
  refine cov3 _ _ _ y ?_
  by_cases ha : (y 0 : ℕ) < 128
  · exact Or.inl (mem2 (inb := inb_S256x128_S128x128_0_0) y (by omega) (by omega) (by omega) (by omega))
  · by_cases hb : (y 0 : ℕ) < 144
    · exact Or.inr (Or.inl (mem2 (inb := inb_S256x128_S16x128_128_0) y (by omega) (by omega) (by omega) (by omega)))
    · exact Or.inr (Or.inr (mem2 (inb := inb_S256x128_S112x128_144_0) y (by omega) (by omega) (by omega) (by omega)))

theorem canon256 (z : Vec Ideal S112x128 .bf16) (r : Vec Ideal S16x128 .bf16) (k : Vec Ideal S128x128 .bf16) (y : S256x128.Idx) :
    View.canon ([⟨Rect.unit ![144, 0] ![112, 128] inb_S256x128_S112x128_144_0, z⟩,
      ⟨Rect.unit ![128, 0] ![16, 128] inb_S256x128_S16x128_128_0, r⟩,
      ⟨Rect.unit ![0, 0] ![128, 128] inb_S256x128_S128x128_0_0, k⟩] : List (View.Piece (Elt Ideal) S256x128 .bf16)) y = m256 z r k (y 0) (y 1) := by
  canon_tiles x h using (cover256 z r k _)
  · unfold m256; rw [dif_neg (by omega), dif_neg (by omega)]; blk_ext
  · unfold m256; rw [dif_neg (by omega), dif_pos (by omega)]; blk_ext
  · unfold m256; rw [dif_pos (by omega)]; blk_ext

/-- Cached rows, then the new rows, then padding. -/
def m640 (z : Vec Ideal S112x512 .bf16) (r : Vec Ideal S16x512 .bf16) (k : Vec Ideal S512x512 .bf16) (a : Fin 640) (b : Fin 512) : EReal :=
  if h : (a : ℕ) < 512 then k (ix2 ⟨a, h⟩ b) else if h2 : (a : ℕ) < 528 then r (ix2 ⟨a - 512, by omega⟩ b) else z (ix2 ⟨a - 528, by omega⟩ b)

theorem cover640 (z : Vec Ideal S112x512 .bf16) (r : Vec Ideal S16x512 .bf16) (k : Vec Ideal S512x512 .bf16) (y : S640x512.Idx) :
    ∃ p ∈ ([⟨Rect.unit ![528, 0] ![112, 512] inb_S640x512_S112x512_528_0, z⟩,
      ⟨Rect.unit ![512, 0] ![16, 512] inb_S640x512_S16x512_512_0, r⟩,
      ⟨Rect.unit ![0, 0] ![512, 512] inb_S640x512_S512x512_0_0, k⟩] : List (View.Piece (Elt Ideal) S640x512 .bf16)), y ∈ p.1.set := by
  have h0 : (y 0 : ℕ) < 640 := (y 0).isLt
  have h1 : (y 1 : ℕ) < 512 := (y 1).isLt
  refine cov3 _ _ _ y ?_
  by_cases ha : (y 0 : ℕ) < 512
  · exact Or.inl (mem2 (inb := inb_S640x512_S512x512_0_0) y (by omega) (by omega) (by omega) (by omega))
  · by_cases hb : (y 0 : ℕ) < 528
    · exact Or.inr (Or.inl (mem2 (inb := inb_S640x512_S16x512_512_0) y (by omega) (by omega) (by omega) (by omega)))
    · exact Or.inr (Or.inr (mem2 (inb := inb_S640x512_S112x512_528_0) y (by omega) (by omega) (by omega) (by omega)))

theorem canon640 (z : Vec Ideal S112x512 .bf16) (r : Vec Ideal S16x512 .bf16) (k : Vec Ideal S512x512 .bf16) (y : S640x512.Idx) :
    View.canon ([⟨Rect.unit ![528, 0] ![112, 512] inb_S640x512_S112x512_528_0, z⟩,
      ⟨Rect.unit ![512, 0] ![16, 512] inb_S640x512_S16x512_512_0, r⟩,
      ⟨Rect.unit ![0, 0] ![512, 512] inb_S640x512_S512x512_0_0, k⟩] : List (View.Piece (Elt Ideal) S640x512 .bf16)) y = m640 z r k (y 0) (y 1) := by
  canon_tiles x h using (cover640 z r k _)
  · unfold m640; rw [dif_neg (by omega), dif_neg (by omega)]; blk_ext
  · unfold m640; rw [dif_neg (by omega), dif_pos (by omega)]; blk_ext
  · unfold m640; rw [dif_pos (by omega)]; blk_ext

theorem cov0 (z : Vec Ideal S112x128 .bf16) (r : Vec Ideal S16x128 .bf16) (k : Vec Ideal S128x128 .bf16) :
    (View.whole cc0_scratch0).readCov
      [⟨Rect.unit ![144, 0] ![112, 128] inb_S256x128_S112x128_144_0, z⟩,
      ⟨Rect.unit ![128, 0] ![16, 128] inb_S256x128_S16x128_128_0, r⟩,
      ⟨Rect.unit ![0, 0] ![128, 128] inb_S256x128_S128x128_0_0, k⟩]
      (Rect.unit ![0, 0] ![256, 128] inb_S256x128_S256x128_0_0).toLoadRect
    = (fun j => m256 z r k (j 0) (j 1) : Vec Ideal S256x128 .bf16) := by
  funext j
  rw [View.readCov_eq_canon']
  idx_vars j
  refine (canon256 z r k _).trans ?_
  congr 1
  all_goals (apply Fin.ext; simp [Rect.unit])

theorem cov1 (z : Vec Ideal S112x128 .bf16) (r : Vec Ideal S16x128 .bf16) (k : Vec Ideal S128x128 .bf16) :
    (View.whole cc0_scratch1).readCov
      [⟨Rect.unit ![144, 0] ![112, 128] inb_S256x128_S112x128_144_0, z⟩,
      ⟨Rect.unit ![128, 0] ![16, 128] inb_S256x128_S16x128_128_0, r⟩,
      ⟨Rect.unit ![0, 0] ![128, 128] inb_S256x128_S128x128_0_0, k⟩]
      (Rect.unit ![0, 0] ![256, 128] inb_S256x128_S256x128_0_0).toLoadRect
    = (fun j => m256 z r k (j 0) (j 1) : Vec Ideal S256x128 .bf16) := by
  funext j
  rw [View.readCov_eq_canon']
  idx_vars j
  refine (canon256 z r k _).trans ?_
  congr 1
  all_goals (apply Fin.ext; simp [Rect.unit])

theorem cov2_0 (z : Vec Ideal S112x512 .bf16) (r : Vec Ideal S16x512 .bf16) (k : Vec Ideal S512x512 .bf16) :
    (View.whole cc0_scratch2).readCov
     [⟨Rect.unit ![528, 0] ![112, 512] inb_S640x512_S112x512_528_0, z⟩,
      ⟨Rect.unit ![512, 0] ![16, 512] inb_S640x512_S16x512_512_0, r⟩,
      ⟨Rect.unit ![0, 0] ![512, 512] inb_S640x512_S512x512_0_0, k⟩]
      (Rect.unit ![0, 0] ![640, 128] inb_S640x512_S640x128_0_0).toLoadRect
    = (fun j => m640 z r k (j 0) ⟨0 + (j 1 : ℕ), by have : (j 1 : ℕ) < 128 := (j 1).isLt; omega⟩ : Vec Ideal S640x128 .bf16) := by
  funext j
  rw [View.readCov_eq_canon']
  idx_vars j
  refine (canon640 z r k _).trans ?_
  congr 1
  all_goals (apply Fin.ext; simp [Rect.unit])

theorem cov2_128 (z : Vec Ideal S112x512 .bf16) (r : Vec Ideal S16x512 .bf16) (k : Vec Ideal S512x512 .bf16) :
    (View.whole cc0_scratch2).readCov
     [⟨Rect.unit ![528, 0] ![112, 512] inb_S640x512_S112x512_528_0, z⟩,
      ⟨Rect.unit ![512, 0] ![16, 512] inb_S640x512_S16x512_512_0, r⟩,
      ⟨Rect.unit ![0, 0] ![512, 512] inb_S640x512_S512x512_0_0, k⟩]
      (Rect.unit ![0, 128] ![640, 128] inb_S640x512_S640x128_0_128).toLoadRect
    = (fun j => m640 z r k (j 0) ⟨128 + (j 1 : ℕ), by have : (j 1 : ℕ) < 128 := (j 1).isLt; omega⟩ : Vec Ideal S640x128 .bf16) := by
  funext j
  rw [View.readCov_eq_canon']
  idx_vars j
  refine (canon640 z r k _).trans ?_
  congr 1
  all_goals (apply Fin.ext; simp [Rect.unit])

theorem cov2_256 (z : Vec Ideal S112x512 .bf16) (r : Vec Ideal S16x512 .bf16) (k : Vec Ideal S512x512 .bf16) :
    (View.whole cc0_scratch2).readCov
     [⟨Rect.unit ![528, 0] ![112, 512] inb_S640x512_S112x512_528_0, z⟩,
      ⟨Rect.unit ![512, 0] ![16, 512] inb_S640x512_S16x512_512_0, r⟩,
      ⟨Rect.unit ![0, 0] ![512, 512] inb_S640x512_S512x512_0_0, k⟩]
      (Rect.unit ![0, 256] ![640, 128] inb_S640x512_S640x128_0_256).toLoadRect
    = (fun j => m640 z r k (j 0) ⟨256 + (j 1 : ℕ), by have : (j 1 : ℕ) < 128 := (j 1).isLt; omega⟩ : Vec Ideal S640x128 .bf16) := by
  funext j
  rw [View.readCov_eq_canon']
  idx_vars j
  refine (canon640 z r k _).trans ?_
  congr 1
  all_goals (apply Fin.ext; simp [Rect.unit])

theorem cov2_384 (z : Vec Ideal S112x512 .bf16) (r : Vec Ideal S16x512 .bf16) (k : Vec Ideal S512x512 .bf16) :
    (View.whole cc0_scratch2).readCov
     [⟨Rect.unit ![528, 0] ![112, 512] inb_S640x512_S112x512_528_0, z⟩,
      ⟨Rect.unit ![512, 0] ![16, 512] inb_S640x512_S16x512_512_0, r⟩,
      ⟨Rect.unit ![0, 0] ![512, 512] inb_S640x512_S512x512_0_0, k⟩]
      (Rect.unit ![0, 384] ![640, 128] inb_S640x512_S640x128_0_384).toLoadRect
    = (fun j => m640 z r k (j 0) ⟨384 + (j 1 : ℕ), by have : (j 1 : ℕ) < 128 := (j 1).isLt; omega⟩ : Vec Ideal S640x128 .bf16) := by
  funext j
  rw [View.readCov_eq_canon']
  idx_vars j
  refine (canon640 z r k _).trans ?_
  congr 1
  all_goals (apply Fin.ext; simp [Rect.unit])

theorem cov3_0 (z : Vec Ideal S112x512 .bf16) (r : Vec Ideal S16x512 .bf16) (k : Vec Ideal S512x512 .bf16) :
    (View.whole cc0_scratch3).readCov
     [⟨Rect.unit ![528, 0] ![112, 512] inb_S640x512_S112x512_528_0, z⟩,
      ⟨Rect.unit ![512, 0] ![16, 512] inb_S640x512_S16x512_512_0, r⟩,
      ⟨Rect.unit ![0, 0] ![512, 512] inb_S640x512_S512x512_0_0, k⟩]
      (Rect.unit ![0, 0] ![640, 128] inb_S640x512_S640x128_0_0).toLoadRect
    = (fun j => m640 z r k (j 0) ⟨0 + (j 1 : ℕ), by have : (j 1 : ℕ) < 128 := (j 1).isLt; omega⟩ : Vec Ideal S640x128 .bf16) := by
  funext j
  rw [View.readCov_eq_canon']
  idx_vars j
  refine (canon640 z r k _).trans ?_
  congr 1
  all_goals (apply Fin.ext; simp [Rect.unit])

theorem cov3_128 (z : Vec Ideal S112x512 .bf16) (r : Vec Ideal S16x512 .bf16) (k : Vec Ideal S512x512 .bf16) :
    (View.whole cc0_scratch3).readCov
     [⟨Rect.unit ![528, 0] ![112, 512] inb_S640x512_S112x512_528_0, z⟩,
      ⟨Rect.unit ![512, 0] ![16, 512] inb_S640x512_S16x512_512_0, r⟩,
      ⟨Rect.unit ![0, 0] ![512, 512] inb_S640x512_S512x512_0_0, k⟩]
      (Rect.unit ![0, 128] ![640, 128] inb_S640x512_S640x128_0_128).toLoadRect
    = (fun j => m640 z r k (j 0) ⟨128 + (j 1 : ℕ), by have : (j 1 : ℕ) < 128 := (j 1).isLt; omega⟩ : Vec Ideal S640x128 .bf16) := by
  funext j
  rw [View.readCov_eq_canon']
  idx_vars j
  refine (canon640 z r k _).trans ?_
  congr 1
  all_goals (apply Fin.ext; simp [Rect.unit])

theorem cov3_256 (z : Vec Ideal S112x512 .bf16) (r : Vec Ideal S16x512 .bf16) (k : Vec Ideal S512x512 .bf16) :
    (View.whole cc0_scratch3).readCov
     [⟨Rect.unit ![528, 0] ![112, 512] inb_S640x512_S112x512_528_0, z⟩,
      ⟨Rect.unit ![512, 0] ![16, 512] inb_S640x512_S16x512_512_0, r⟩,
      ⟨Rect.unit ![0, 0] ![512, 512] inb_S640x512_S512x512_0_0, k⟩]
      (Rect.unit ![0, 256] ![640, 128] inb_S640x512_S640x128_0_256).toLoadRect
    = (fun j => m640 z r k (j 0) ⟨256 + (j 1 : ℕ), by have : (j 1 : ℕ) < 128 := (j 1).isLt; omega⟩ : Vec Ideal S640x128 .bf16) := by
  funext j
  rw [View.readCov_eq_canon']
  idx_vars j
  refine (canon640 z r k _).trans ?_
  congr 1
  all_goals (apply Fin.ext; simp [Rect.unit])

theorem cov3_384 (z : Vec Ideal S112x512 .bf16) (r : Vec Ideal S16x512 .bf16) (k : Vec Ideal S512x512 .bf16) :
    (View.whole cc0_scratch3).readCov
     [⟨Rect.unit ![528, 0] ![112, 512] inb_S640x512_S112x512_528_0, z⟩,
      ⟨Rect.unit ![512, 0] ![16, 512] inb_S640x512_S16x512_512_0, r⟩,
      ⟨Rect.unit ![0, 0] ![512, 512] inb_S640x512_S512x512_0_0, k⟩]
      (Rect.unit ![0, 384] ![640, 128] inb_S640x512_S640x128_0_384).toLoadRect
    = (fun j => m640 z r k (j 0) ⟨384 + (j 1 : ℕ), by have : (j 1 : ℕ) < 128 := (j 1).isLt; omega⟩ : Vec Ideal S640x128 .bf16) := by
  funext j
  rw [View.readCov_eq_canon']
  idx_vars j
  refine (canon640 z r k _).trans ?_
  congr 1
  all_goals (apply Fin.ext; simp [Rect.unit])

end Cert.AttnTile
end
end
-- ==== Proof.AttnPoint.lean ====
module
public import proofs.«01_k».proof.Proof.AttnTile
public import proofs.«01_k».proof.Proof.AttnCov
@[expose] public section
set_option maxRecDepth 16384
noncomputable section
namespace Cert.AttnTile
open Idealize.ShloMosaic Idealize.ShloMosaic.TcCoe Idealize.SL.Sem Cert.AttnIdeal Cert.AttnIdeal.Gen Cert.AttnSoft
open Idealize.ShloMosaic.Pipeline (Dat)
variable (m : (ℓ : Loc nD τ sig) → Buf (Elt Ideal) ℓ)

/-! # What the call's blocks are of the arguments -/

theorem idx : ∀ t : Fin cfg0.N, win0_0.index t = ![0] ∧ win0_1.index t = ![t.val, 0] ∧ win0_2.index t = ![t.val, 0, 0]
    ∧ win0_3.index t = ![t.val, 0, 0] ∧ win0_4.index t = ![t.val, 0, 0] ∧ win0_5.index t = ![t.val, 0, 0] ∧ win0_6.index t = ![0, 0, 0]
    ∧ win0_7.index t = ![0, 0, 0] ∧ win0_8.index t = ![0, 0] := (by decide +kernel : ∀ t : Fin grid0.N, _)

/-- The batch entry of a grid point. -/
abbrev bOf (t : Fin cfg0.N) : Fin 8 := ⟨t.val, lt_of_lt_of_eq t.isLt N_0⟩
/-- A row of the projection. -/
abbrev rowOf (b : Fin 8) (i : Fin 16) : Fin 128 := ⟨16 * b + i, by omega⟩

abbrev aSk (c : Dev nD) : FVec Ideal S8 .f32 := m ((c : Thread nD τ).loc main_arg0)
abbrev aP (c : Dev nD) : FVec Ideal S128x4352 .f32 := m ((c : Thread nD τ).loc main_arg1)
abbrev aAK (c : Dev nD) : FVec Ideal S8x128x128 .f32 := m ((c : Thread nD τ).loc main_arg2)
abbrev aAV (c : Dev nD) : FVec Ideal S8x128x128 .f32 := m ((c : Thread nD τ).loc main_arg3)
abbrev aBK (c : Dev nD) : FVec Ideal S8x512x512 .f32 := m ((c : Thread nD τ).loc main_arg4)
abbrev aBV (c : Dev nD) : FVec Ideal S8x512x512 .f32 := m ((c : Thread nD τ).loc main_arg5)
abbrev aBA (c : Dev nD) : FVec Ideal S8x16x144 .f32 := m ((c : Thread nD τ).loc main_arg6)
abbrev aBB (c : Dev nD) : FVec Ideal S8x16x528 .f32 := m ((c : Thread nD τ).loc main_arg7)

theorem b0 (c : Dev nD) (t : Fin cfg0.N) : (iblk m c 0 t : Vec Ideal S8 .f32) = aSk m c := by
  blk_ext! [iblk, V, idx t]
theorem b1 (c : Dev nD) (t : Fin cfg0.N) (r : Fin 16) (k : Fin 4352) :
    (iblk m c 1 t : Vec Ideal S16x4352 .f32) (ix2 r k) = aP m c (ix2 (rowOf (bOf t) r) k) := by
  blk_ext [iblk, V, idx t]
theorem b2 (c : Dev nD) (t : Fin cfg0.N) (r : Fin 128) (k : Fin 128) :
    (iblk m c 2 t : Vec Ideal S1x128x128 .f32) (ix3 0 r k) = aAK m c (ix3 (bOf t) r k) := by
  blk_ext [iblk, V, idx t]
theorem b3 (c : Dev nD) (t : Fin cfg0.N) (r : Fin 128) (k : Fin 128) :
    (iblk m c 3 t : Vec Ideal S1x128x128 .f32) (ix3 0 r k) = aAV m c (ix3 (bOf t) r k) := by
  blk_ext [iblk, V, idx t]
theorem b4 (c : Dev nD) (t : Fin cfg0.N) (r : Fin 512) (k : Fin 512) :
    (iblk m c 4 t : Vec Ideal S1x512x512 .f32) (ix3 0 r k) = aBK m c (ix3 (bOf t) r k) := by
  blk_ext [iblk, V, idx t]
theorem b5 (c : Dev nD) (t : Fin cfg0.N) (r : Fin 512) (k : Fin 512) :
    (iblk m c 5 t : Vec Ideal S1x512x512 .f32) (ix3 0 r k) = aBV m c (ix3 (bOf t) r k) := by
  blk_ext [iblk, V, idx t]
theorem V6 (c : Dev nD) : V m c main_v0 = (pad S8x16x256 ![0, 0, 0] ![0, 0, 112] ![0, 0, 0] (aBA m c) (constant S_ .f32 0xFF800000#32 : FVec Ideal S_ .f32) pads_S8x16x144_S8x16x256_000_000_01120 h_S_ : FVec Ideal S8x16x256 .f32) := by
  unfold V
  simp only [List.flatten_cons, List.flatten_nil, List.cons_append, List.nil_append, List.append_nil, hostOps0, hostOps0_1, hostOps0_2, hostOps0_3, hostOps0_4]
  entry_read
  rfl
theorem V7 (c : Dev nD) : V m c main_v1 = (pad S8x16x640 ![0, 0, 0] ![0, 0, 112] ![0, 0, 0] (aBB m c) (constant S_ .f32 0xFF800000#32 : FVec Ideal S_ .f32) pads_S8x16x528_S8x16x640_000_000_01120 h_S_ : FVec Ideal S8x16x640 .f32) := by
  unfold V
  simp only [List.flatten_cons, List.flatten_nil, List.cons_append, List.nil_append, List.append_nil, hostOps0, hostOps0_1, hostOps0_2, hostOps0_3, hostOps0_4]
  entry_read
  rfl
theorem V8 (c : Dev nD) : V m c main_v2 = (fun _ => 0#32 : Vec Ideal S16x128 .i32) := by
  unfold V
  simp only [List.flatten_cons, List.flatten_nil, List.cons_append, List.nil_append, List.append_nil, hostOps0, hostOps0_1, hostOps0_2, hostOps0_3, hostOps0_4]
  entry_read
  rfl
theorem b6 (c : Dev nD) (t : Fin cfg0.N) (n : Fin 8) (i : Fin 16) (k : Fin 256) :
    (iblk m c 6 t : Vec Ideal S8x16x256 .f32) (ix3 n i k) = if h : (k : ℕ) < 144 then aBA m c (ix3 n i ⟨k, h⟩) else ⊥ := by
  have e : (iblk m c 6 t : Vec Ideal S8x16x256 .f32) = V m c main_v0 := by blk_ext! [iblk, idx t]
  rw [e, V6]
  pointwise
  simp only [infB]
theorem b7 (c : Dev nD) (t : Fin cfg0.N) (n : Fin 8) (i : Fin 16) (k : Fin 640) :
    (iblk m c 7 t : Vec Ideal S8x16x640 .f32) (ix3 n i k) = if h : (k : ℕ) < 528 then aBB m c (ix3 n i ⟨k, h⟩) else ⊥ := by
  have e : (iblk m c 7 t : Vec Ideal S8x16x640 .f32) = V m c main_v1 := by blk_ext! [iblk, idx t]
  rw [e, V7]
  pointwise
  simp only [infB]
theorem b8 (c : Dev nD) (t : Fin cfg0.N) : (iblk m c 8 t : Vec Ideal S16x128 .i32) = fun _ => 0#32 := by
  have e : (iblk m c 8 t : Vec Ideal S16x128 .i32) = V m c main_v2 := by blk_ext! [iblk, idx t]
  exact e.trans (V8 m c)

/-! # Rows of keys and values, and the result of one head -/

/-- Cached rows of one batch entry, then its new ones: lane `d`, the new rows from column `o` of the projection. -/
def rwA (C : FVec Ideal S8x128x128 .f32) (P : FVec Ideal S128x4352 .f32) (o : ℕ) (ho : o ≤ 4224) (b : Fin 8) (k : Fin 144) (d : Fin 128) : EReal :=
  if h : (k : ℕ) < 128 then C (ix3 b ⟨k, h⟩ d) else P (ix2 (rowOf b ⟨k - 128, by omega⟩) ⟨o + d, by omega⟩)
def rwB (C : FVec Ideal S8x512x512 .f32) (P : FVec Ideal S128x4352 .f32) (o : ℕ) (ho : o ≤ 3840) (b : Fin 8) (k : Fin 528) (d : Fin 512) : EReal :=
  if h : (k : ℕ) < 512 then C (ix3 b ⟨k, h⟩ d) else P (ix2 (rowOf b ⟨k - 512, by omega⟩) ⟨o + d, by omega⟩)

/-- The score of query `i` and key `k`, head `n`. -/
def scA (P : FVec Ideal S128x4352 .f32) (CK : FVec Ideal S8x128x128 .f32) (B : FVec Ideal S8x16x144 .f32) (b : Fin 8) (i : Fin 16) (n : Fin 8) (k : Fin 144) : EReal :=
  sc (fun e => P (ix2 (rowOf b i) ⟨64 * n + e, by omega⟩)) (fun e => rwA CK P 512 (by norm_num) b k ⟨64 * (n / 4) + e, by omega⟩) (B (ix3 n i k))
def scB (P : FVec Ideal S128x4352 .f32) (CK : FVec Ideal S8x512x512 .f32) (B : FVec Ideal S8x16x528 .f32) (b : Fin 8) (i : Fin 16) (n : Fin 8) (k : Fin 528) : EReal :=
  sc (fun e => P (ix2 (rowOf b i) ⟨768 + 64 * n + e, by omega⟩)) (fun e => rwB CK P 1280 (by norm_num) b k ⟨64 * n + e, by omega⟩) (B (ix3 n i k))
/-- What the kernel leaves of head `n`, lane `d`. -/
def outA (S : FVec Ideal S8 .f32) (P : FVec Ideal S128x4352 .f32) (CK CV : FVec Ideal S8x128x128 .f32) (B : FVec Ideal S8x16x144 .f32) (b : Fin 8) (i : Fin 16) (n : Fin 8) (d : Fin 64) : EReal :=
  kout (scA P CK B b i n) (S (ix1 n)) (fun k => rwA CV P 640 (by norm_num) b k ⟨64 * (n / 4) + d, by omega⟩)
def outB (P : FVec Ideal S128x4352 .f32) (CK CV : FVec Ideal S8x512x512 .f32) (B : FVec Ideal S8x16x528 .f32) (b : Fin 8) (i : Fin 16) (n : Fin 8) (d : Fin 64) : EReal :=
  kout (scB P CK B b i n) ⊥ (fun k => rwB CV P 1792 (by norm_num) b k ⟨64 * n + d, by omega⟩)

theorem ldS (x : Vec Ideal S8 .f32) (n : ℕ) (hn : n < 8) (inb : ∀ a, (![n] : Fin 1 → ℕ) a + (![1] : Fin 1 → ℕ) a ≤ S8.size a) (h : 0 < (⟨1, ![1]⟩ : Shape).numel) :
    View.ld x (Rect.unit (s := S8) ![n] ![1] inb) (Shape.Idx.first h) = x (ix1 ⟨n, hn⟩) := by
  show x _ = x _
  congr 1
  funext a
  fin_cases a <;> (apply Fin.ext; simp [Rect.unit])
theorem ldA (x : Vec Ideal S8x16x256 .f32) (n : ℕ) (hn : n < 8) (inb : ∀ a, (![n, 0, 0] : Fin 3 → ℕ) a + (![1, 16, 256] : Fin 3 → ℕ) a ≤ S8x16x256.size a) (i : Fin 16) (k : Fin 256) :
    View.ld x (Rect.unit (s := S8x16x256) ![n, 0, 0] ![1, 16, 256] inb) (ix3 0 i k) = x (ix3 ⟨n, hn⟩ i k) := by
  show x _ = x _
  congr 1
  funext a
  fin_cases a <;> (apply Fin.ext; simp [Rect.unit])
theorem ldB (x : Vec Ideal S8x16x640 .f32) (n : ℕ) (hn : n < 8) (inb : ∀ a, (![n, 0, 0] : Fin 3 → ℕ) a + (![1, 16, 640] : Fin 3 → ℕ) a ≤ S8x16x640.size a) (i : Fin 16) (k : Fin 640) :
    View.ld x (Rect.unit (s := S8x16x640) ![n, 0, 0] ![1, 16, 640] inb) (ix3 0 i k) = x (ix3 ⟨n, hn⟩ i k) := by
  show x _ = x _
  congr 1
  funext a
  fin_cases a <;> (apply Fin.ext; simp [Rect.unit])

/-- The padded keys and values a grid point holds. -/
abbrev KA (c : Dev nD) (t : Fin cfg0.N) : Vec Ideal S256x128 .bf16 := fun j => m256 (k0_pay7 (F := Ideal)) (k0_pay6 (iblk m c 1 t)) (k0_pay5 (iblk m c 2 t)) (j 0) (j 1)
abbrev VA (c : Dev nD) (t : Fin cfg0.N) : Vec Ideal S256x128 .bf16 := fun j => m256 (k0_pay12 (F := Ideal)) (k0_pay11 (k0_pay8 (iblk m c 1 t))) (k0_pay10 (k0_pay9 (iblk m c 3 t))) (j 0) (j 1)
abbrev KB (c : Dev nD) (t : Fin cfg0.N) (o : ℕ) (ho : o ≤ 384) : Vec Ideal S640x128 .bf16 := fun j => m640 (k0_pay15 (F := Ideal)) (k0_pay14 (iblk m c 1 t)) (k0_pay13 (iblk m c 4 t)) (j 0) ⟨o + (j 1 : ℕ), by have : (j 1 : ℕ) < 128 := (j 1).isLt; omega⟩
abbrev VB (c : Dev nD) (t : Fin cfg0.N) (o : ℕ) (ho : o ≤ 384) : Vec Ideal S640x128 .bf16 := fun j => m640 (k0_pay19 (F := Ideal)) (k0_pay18 (k0_pay16 (iblk m c 1 t))) (k0_pay17 (iblk m c 5 t)) (j 0) ⟨o + (j 1 : ℕ), by have : (j 1 : ℕ) < 128 := (j 1).isLt; omega⟩

theorem KA_at (c : Dev nD) (t : Fin cfg0.N) (k : Fin 144) (d : Fin 128) :
    KA m c t (ix2 (Fin.castAdd 112 k) d) = rwA (aAK m c) (aP m c) 512 (by norm_num) (bOf t) k d := by
  show m256 _ _ _ (Fin.castAdd 112 k) d = _
  unfold m256 rwA
  by_cases h : (k : ℕ) < 128
  · rw [dif_pos (show ((Fin.castAdd 112 k : Fin 256) : ℕ) < 128 from h), dif_pos h]; pointwise [k0_pay5]; exact b2 m c t _ _
  · rw [dif_neg (show ¬ ((Fin.castAdd 112 k : Fin 256) : ℕ) < 128 from h), dif_neg h, dif_pos (show ((Fin.castAdd 112 k : Fin 256) : ℕ) < 144 from k.isLt)]; pointwise [k0_pay6]; exact b1 m c t _ _
theorem VA_at (c : Dev nD) (t : Fin cfg0.N) (k : Fin 144) (d : Fin 128) :
    VA m c t (ix2 (Fin.castAdd 112 k) d) = rwA (aAV m c) (aP m c) 640 (by norm_num) (bOf t) k d := by
  show m256 _ _ _ (Fin.castAdd 112 k) d = _
  unfold m256 rwA
  by_cases h : (k : ℕ) < 128
  · rw [dif_pos (show ((Fin.castAdd 112 k : Fin 256) : ℕ) < 128 from h), dif_pos h]; pointwise [k0_pay10, k0_pay9]; exact b3 m c t _ _
  · rw [dif_neg (show ¬ ((Fin.castAdd 112 k : Fin 256) : ℕ) < 128 from h), dif_neg h, dif_pos (show ((Fin.castAdd 112 k : Fin 256) : ℕ) < 144 from k.isLt)]; pointwise [k0_pay11, k0_pay8]; exact b1 m c t _ _
theorem KB_at (c : Dev nD) (t : Fin cfg0.N) (o : ℕ) (ho : o ≤ 384) (k : Fin 528) (d : Fin 128) :
    KB m c t o ho (ix2 (Fin.castAdd 112 k) d) = rwB (aBK m c) (aP m c) 1280 (by norm_num) (bOf t) k ⟨o + d, by omega⟩ := by
  show m640 _ _ _ (Fin.castAdd 112 k) (⟨o + d, by omega⟩ : Fin 512) = _
  unfold m640 rwB
  by_cases h : (k : ℕ) < 512
  · rw [dif_pos (show ((Fin.castAdd 112 k : Fin 640) : ℕ) < 512 from h), dif_pos h]; pointwise [k0_pay13]; exact b4 m c t _ _
  · rw [dif_neg (show ¬ ((Fin.castAdd 112 k : Fin 640) : ℕ) < 512 from h), dif_neg h, dif_pos (show ((Fin.castAdd 112 k : Fin 640) : ℕ) < 528 from k.isLt)]; pointwise [k0_pay14]; exact b1 m c t _ _
theorem VB_at (c : Dev nD) (t : Fin cfg0.N) (o : ℕ) (ho : o ≤ 384) (k : Fin 528) (d : Fin 128) :
    VB m c t o ho (ix2 (Fin.castAdd 112 k) d) = rwB (aBV m c) (aP m c) 1792 (by norm_num) (bOf t) k ⟨o + d, by omega⟩ := by
  show m640 _ _ _ (Fin.castAdd 112 k) (⟨o + d, by omega⟩ : Fin 512) = _
  unfold m640 rwB
  by_cases h : (k : ℕ) < 512
  · rw [dif_pos (show ((Fin.castAdd 112 k : Fin 640) : ℕ) < 512 from h), dif_pos h]; pointwise [k0_pay17]; exact b5 m c t _ _
  · rw [dif_neg (show ¬ ((Fin.castAdd 112 k : Fin 640) : ℕ) < 512 from h), dif_neg h, dif_pos (show ((Fin.castAdd 112 k : Fin 640) : ℕ) < 528 from k.isLt)]; pointwise [k0_pay18, k0_pay16]; exact b1 m c t _ _

/-- One head over the padded rows is the head over the rows. -/
theorem headA (c : Dev nD) (t : Fin cfg0.N) (st : FVec Ideal S32x256 .f32) (r : Fin 32) (i : Fin 16) (n : Fin 8) (d : Fin 64) (o : ℕ) (ho : o ≤ 4288)
    (L : Fin 64 → Fin 128) (cc : Fin 128) (bb : Fin 256 → EReal) (s : EReal)
    (hst : ∀ k, st (ix2 r k) = sc (qv (iblk m c 1 t) i o ho) (fun e => KA m c t (ix2 k (L e))) (bb k))
    (hb : ∀ k, bb k = (iblk m c 6 t : Vec Ideal S8x16x256 .f32) (ix3 n i k)) (hs : s = aSk m c (ix1 n)) (hon : o = 64 * n)
    (hL : ∀ e, (L e : ℕ) = 64 * (n / 4) + e) (hcc : (cc : ℕ) = 64 * (n / 4) + d) :
    kout (fun k => st (ix2 r k)) s (fun k => VA m c t (ix2 k cc))
      = outA (aSk m c) (aP m c) (aAK m c) (aAV m c) (aBA m c) (bOf t) i n d := by
  refine (kout_pad 144 112 _ _ _ fun k => ?_).trans ?_
  · rw [hst, hb, b6, dif_neg (by show ¬ 144 + (k : ℕ) < 144; omega), sc_bot]
  · unfold outA
    subst hs hon
    congr 1
    · funext k
      rw [hst, hb, b6, dif_pos (show ((Fin.castAdd 112 k : Fin 256) : ℕ) < 144 from k.isLt)]
      unfold scA
      congr 1
      · funext e; exact b1 m c t _ _
      · funext e
        rw [KA_at]
        congr 1
        exact Fin.ext (hL e)
    · funext k
      rw [VA_at]
      congr 1
      exact Fin.ext hcc
theorem headB (c : Dev nD) (t : Fin cfg0.N) (st : FVec Ideal S32x640 .f32) (r : Fin 32) (i : Fin 16) (n : Fin 8) (d : Fin 64) (o : ℕ) (ho : o ≤ 4288)
    (w : ℕ) (hw : w ≤ 384) (L : Fin 64 → Fin 128) (cc : Fin 128) (bb : Fin 640 → EReal)
    (hst : ∀ k, st (ix2 r k) = sc (qv (iblk m c 1 t) i o ho) (fun e => KB m c t w hw (ix2 k (L e))) (bb k))
    (hb : ∀ k, bb k = (iblk m c 7 t : Vec Ideal S8x16x640 .f32) (ix3 n i k)) (hon : o = 768 + 64 * n)
    (hL : ∀ e, w + (L e : ℕ) = 64 * n + e) (hcc : w + (cc : ℕ) = 64 * n + d) :
    kout (fun k => st (ix2 r k)) ⊥ (fun k => VB m c t w hw (ix2 k cc))
      = outB (aP m c) (aBK m c) (aBV m c) (aBB m c) (bOf t) i n d := by
  refine (kout_pad 528 112 _ _ _ fun k => ?_).trans ?_
  · rw [hst, hb, b7, dif_neg (by show ¬ 528 + (k : ℕ) < 528; omega), sc_bot]
  · unfold outB
    subst hon
    congr 1
    · funext k
      rw [hst, hb, b7, dif_pos (show ((Fin.castAdd 112 k : Fin 640) : ℕ) < 528 from k.isLt)]
      unfold scB
      congr 1
      · funext e; exact b1 m c t _ _
      · funext e
        rw [KB_at]
        congr 1
        exact Fin.ext (hL e)
    · funext k
      rw [VB_at]
      congr 1
      exact Fin.ext hcc
end Cert.AttnTile
end
end
-- ==== Proof.AttnOut.lean ====
module
public import proofs.«01_k».proof.Proof.AttnPoint
@[expose] public section
set_option maxRecDepth 16384
noncomputable section
namespace Cert.AttnTile
open Idealize.ShloMosaic Idealize.ShloMosaic.TcCoe Idealize.SL.Sem Cert.AttnIdeal Cert.AttnIdeal.Gen Cert.AttnSoft
open Idealize.ShloMosaic.Pipeline (Dat)
variable (m : (ℓ : Loc nD τ sig) → Buf (Elt Ideal) ℓ)

/-! # What one grid point leaves of the two attentions -/

set_option maxHeartbeats 1000000 in
theorem point9 (c : Dev nD) (t : Fin cfg0.N) (i : Fin 16) (d : Fin 512) :
    ((outsAt0 m c t).1 : Vec Ideal S16x512 .f32) (ix2 i d)
      = outA (aSk m c) (aP m c) (aAK m c) (aAV m c) (aBA m c) (bOf t) i ⟨d / 64, by omega⟩ ⟨d % 64, by omega⟩ := by
  unfold outsAt0
  frame_out
  have hn : k0_pay22 (F := Ideal) (iblk m c 8 t) = nev := by rw [b8]; exact never_eq
  rw [hn, cov0, cov1, cov2_0, pay36_eq]
  clear hn
  canon_tiles x h
  · idx_vars x
    obtain rfl : i = x0 := Fin.ext h0
    have hd : (d : ℕ) = 384 + (x1 : ℕ) := by first | exact h1 | exact h1.trans (Nat.zero_add _).symm
    apply Eq.trans
    · apply pay50_at
    split
    · have hn' : (⟨(d : ℕ) / 64, by omega⟩ : Fin 8) = ⟨6, by norm_num⟩ := Fin.ext (by show (d : ℕ) / 64 = 6; omega)
      rw [hn']
      exact headA m c t _ (up i) i ⟨6, by norm_num⟩ _ 384 (by norm_num) hi (rot x1) _ _ (st3_u _ _ _ _ i) (fun k => ldA _ 6 (by norm_num) _ i k) ((ldS _ 6 (by norm_num) _ _).trans (congrFun (b0 m c t) _)) rfl
        (fun e => by show 64 + (e : ℕ) = 64 * (6 / 4) + e; omega) (by show ((x1 : ℕ) + 128 - 64) % 128 = 64 * (6 / 4) + (d : ℕ) % 64; omega)
    · have hn' : (⟨(d : ℕ) / 64, by omega⟩ : Fin 8) = ⟨7, by norm_num⟩ := Fin.ext (by show (d : ℕ) / 64 = 7; omega)
      rw [hn']
      exact headA m c t _ (dn i) i ⟨7, by norm_num⟩ _ 448 (by norm_num) hi (x1) _ _ (st3_d _ _ _ _ i) (fun k => ldA _ 7 (by norm_num) _ i k) ((ldS _ 7 (by norm_num) _ _).trans (congrFun (b0 m c t) _)) rfl
        (fun e => by show 64 + (e : ℕ) = 64 * (7 / 4) + e; omega) (by show (x1 : ℕ) = 64 * (7 / 4) + (d : ℕ) % 64; omega)
  · idx_vars x
    obtain rfl : i = x0 := Fin.ext h0
    have hd : (d : ℕ) = 256 + (x1 : ℕ) := by first | exact h1 | exact h1.trans (Nat.zero_add _).symm
    apply Eq.trans
    · apply pay42_at
    split
    · have hn' : (⟨(d : ℕ) / 64, by omega⟩ : Fin 8) = ⟨4, by norm_num⟩ := Fin.ext (by show (d : ℕ) / 64 = 4; omega)
      rw [hn']
      exact headA m c t _ (up i) i ⟨4, by norm_num⟩ _ 256 (by norm_num) hi (rot x1) _ _ (st2_u _ _ _ _ i) (fun k => ldA _ 4 (by norm_num) _ i k) ((ldS _ 4 (by norm_num) _ _).trans (congrFun (b0 m c t) _)) rfl
        (fun e => by show 64 + (e : ℕ) = 64 * (4 / 4) + e; omega) (by show ((x1 : ℕ) + 128 - 64) % 128 = 64 * (4 / 4) + (d : ℕ) % 64; omega)
    · have hn' : (⟨(d : ℕ) / 64, by omega⟩ : Fin 8) = ⟨5, by norm_num⟩ := Fin.ext (by show (d : ℕ) / 64 = 5; omega)
      rw [hn']
      exact headA m c t _ (dn i) i ⟨5, by norm_num⟩ _ 320 (by norm_num) hi (x1) _ _ (st2_d _ _ _ _ i) (fun k => ldA _ 5 (by norm_num) _ i k) ((ldS _ 5 (by norm_num) _ _).trans (congrFun (b0 m c t) _)) rfl
        (fun e => by show 64 + (e : ℕ) = 64 * (5 / 4) + e; omega) (by show (x1 : ℕ) = 64 * (5 / 4) + (d : ℕ) % 64; omega)
  · idx_vars x
    obtain rfl : i = x0 := Fin.ext h0
    have hd : (d : ℕ) = 128 + (x1 : ℕ) := by first | exact h1 | exact h1.trans (Nat.zero_add _).symm
    apply Eq.trans
    · apply pay38_at
    split
    · have hn' : (⟨(d : ℕ) / 64, by omega⟩ : Fin 8) = ⟨2, by norm_num⟩ := Fin.ext (by show (d : ℕ) / 64 = 2; omega)
      rw [hn']
      exact headA m c t _ (up i) i ⟨2, by norm_num⟩ _ 128 (by norm_num) lo (x1) _ _ (st1_u _ _ _ _ i) (fun k => ldA _ 2 (by norm_num) _ i k) ((ldS _ 2 (by norm_num) _ _).trans (congrFun (b0 m c t) _)) rfl
        (fun e => by show (e : ℕ) = 64 * (2 / 4) + e; omega) (by show (x1 : ℕ) = 64 * (2 / 4) + (d : ℕ) % 64; omega)
    · have hn' : (⟨(d : ℕ) / 64, by omega⟩ : Fin 8) = ⟨3, by norm_num⟩ := Fin.ext (by show (d : ℕ) / 64 = 3; omega)
      rw [hn']
      exact headA m c t _ (dn i) i ⟨3, by norm_num⟩ _ 192 (by norm_num) lo (rot x1) _ _ (st1_d _ _ _ _ i) (fun k => ldA _ 3 (by norm_num) _ i k) ((ldS _ 3 (by norm_num) _ _).trans (congrFun (b0 m c t) _)) rfl
        (fun e => by show (e : ℕ) = 64 * (3 / 4) + e; omega) (by show ((x1 : ℕ) + 128 - 64) % 128 = 64 * (3 / 4) + (d : ℕ) % 64; omega)
  · idx_vars x
    obtain rfl : i = x0 := Fin.ext h0
    have hd : (d : ℕ) = 0 + (x1 : ℕ) := by first | exact h1 | exact h1.trans (Nat.zero_add _).symm
    apply Eq.trans
    · apply pay34_at
    split
    · have hn' : (⟨(d : ℕ) / 64, by omega⟩ : Fin 8) = ⟨0, by norm_num⟩ := Fin.ext (by show (d : ℕ) / 64 = 0; omega)
      rw [hn']
      exact headA m c t _ (up i) i ⟨0, by norm_num⟩ _ 0 (by norm_num) lo (x1) _ _ (st0_u _ _ _ _ i) (fun k => ldA _ 0 (by norm_num) _ i k) ((ldS _ 0 (by norm_num) _ _).trans (congrFun (b0 m c t) _)) rfl
        (fun e => by show (e : ℕ) = 64 * (0 / 4) + e; omega) (by show (x1 : ℕ) = 64 * (0 / 4) + (d : ℕ) % 64; omega)
    · have hn' : (⟨(d : ℕ) / 64, by omega⟩ : Fin 8) = ⟨1, by norm_num⟩ := Fin.ext (by show (d : ℕ) / 64 = 1; omega)
      rw [hn']
      exact headA m c t _ (dn i) i ⟨1, by norm_num⟩ _ 64 (by norm_num) lo (rot x1) _ _ (st0_d _ _ _ _ i) (fun k => ldA _ 1 (by norm_num) _ i k) ((ldS _ 1 (by norm_num) _ _).trans (congrFun (b0 m c t) _)) rfl
        (fun e => by show (e : ℕ) = 64 * (1 / 4) + e; omega) (by show ((x1 : ℕ) + 128 - 64) % 128 = 64 * (1 / 4) + (d : ℕ) % 64; omega)

set_option maxHeartbeats 1000000 in
theorem point10 (c : Dev nD) (t : Fin cfg0.N) (i : Fin 16) (d : Fin 512) :
    ((outsAt0 m c t).2.1 : Vec Ideal S16x512 .f32) (ix2 i d)
      = outB (aP m c) (aBK m c) (aBV m c) (aBB m c) (bOf t) i ⟨d / 64, by omega⟩ ⟨d % 64, by omega⟩ := by
  unfold outsAt0
  frame_out
  have hn : k0_pay22 (F := Ideal) (iblk m c 8 t) = nev := by rw [b8]; exact never_eq
  rw [hn, cov2_0, cov2_128, cov2_256, cov2_384, cov3_0, cov3_128, cov3_256, cov3_384]
  clear hn
  canon_tiles x h
  · idx_vars x
    obtain rfl : i = x0 := Fin.ext h0
    have hd : (d : ℕ) = 384 + (x1 : ℕ) := by first | exact h1 | exact h1.trans (Nat.zero_add _).symm
    apply Eq.trans
    · apply pay66_at
    split
    · have hn' : (⟨(d : ℕ) / 64, by omega⟩ : Fin 8) = ⟨6, by norm_num⟩ := Fin.ext (by show (d : ℕ) / 64 = 6; omega)
      rw [hn']
      exact headB m c t _ (up i) i ⟨6, by norm_num⟩ _ 1152 (by norm_num) 384 (by norm_num) lo x1 _ (sb3_u _ _ _ _ i) (fun k => ldB _ 6 (by norm_num) _ i k) rfl
        (fun e => by show 384 + ((e : ℕ)) = 64 * 6 + e; omega) (by show 384 + (x1 : ℕ) = 64 * 6 + (d : ℕ) % 64; omega)
    · have hn' : (⟨(d : ℕ) / 64, by omega⟩ : Fin 8) = ⟨7, by norm_num⟩ := Fin.ext (by show (d : ℕ) / 64 = 7; omega)
      rw [hn']
      exact headB m c t _ (dn i) i ⟨7, by norm_num⟩ _ 1216 (by norm_num) 384 (by norm_num) hi x1 _ (sb3_d _ _ _ _ i) (fun k => ldB _ 7 (by norm_num) _ i k) rfl
        (fun e => by show 384 + (64 + (e : ℕ)) = 64 * 7 + e; omega) (by show 384 + (x1 : ℕ) = 64 * 7 + (d : ℕ) % 64; omega)
  · idx_vars x
    obtain rfl : i = x0 := Fin.ext h0
    have hd : (d : ℕ) = 256 + (x1 : ℕ) := by first | exact h1 | exact h1.trans (Nat.zero_add _).symm
    apply Eq.trans
    · apply pay65_at
    split
    · have hn' : (⟨(d : ℕ) / 64, by omega⟩ : Fin 8) = ⟨4, by norm_num⟩ := Fin.ext (by show (d : ℕ) / 64 = 4; omega)
      rw [hn']
      exact headB m c t _ (up i) i ⟨4, by norm_num⟩ _ 1024 (by norm_num) 256 (by norm_num) lo x1 _ (sb2_u _ _ _ _ i) (fun k => ldB _ 4 (by norm_num) _ i k) rfl
        (fun e => by show 256 + ((e : ℕ)) = 64 * 4 + e; omega) (by show 256 + (x1 : ℕ) = 64 * 4 + (d : ℕ) % 64; omega)
    · have hn' : (⟨(d : ℕ) / 64, by omega⟩ : Fin 8) = ⟨5, by norm_num⟩ := Fin.ext (by show (d : ℕ) / 64 = 5; omega)
      rw [hn']
      exact headB m c t _ (dn i) i ⟨5, by norm_num⟩ _ 1088 (by norm_num) 256 (by norm_num) hi x1 _ (sb2_d _ _ _ _ i) (fun k => ldB _ 5 (by norm_num) _ i k) rfl
        (fun e => by show 256 + (64 + (e : ℕ)) = 64 * 5 + e; omega) (by show 256 + (x1 : ℕ) = 64 * 5 + (d : ℕ) % 64; omega)
  · idx_vars x
    obtain rfl : i = x0 := Fin.ext h0
    have hd : (d : ℕ) = 128 + (x1 : ℕ) := by first | exact h1 | exact h1.trans (Nat.zero_add _).symm
    apply Eq.trans
    · apply pay61_at
    split
    · have hn' : (⟨(d : ℕ) / 64, by omega⟩ : Fin 8) = ⟨2, by norm_num⟩ := Fin.ext (by show (d : ℕ) / 64 = 2; omega)
      rw [hn']
      exact headB m c t _ (up i) i ⟨2, by norm_num⟩ _ 896 (by norm_num) 128 (by norm_num) lo x1 _ (sb1_u _ _ _ _ i) (fun k => ldB _ 2 (by norm_num) _ i k) rfl
        (fun e => by show 128 + ((e : ℕ)) = 64 * 2 + e; omega) (by show 128 + (x1 : ℕ) = 64 * 2 + (d : ℕ) % 64; omega)
    · have hn' : (⟨(d : ℕ) / 64, by omega⟩ : Fin 8) = ⟨3, by norm_num⟩ := Fin.ext (by show (d : ℕ) / 64 = 3; omega)
      rw [hn']
      exact headB m c t _ (dn i) i ⟨3, by norm_num⟩ _ 960 (by norm_num) 128 (by norm_num) hi x1 _ (sb1_d _ _ _ _ i) (fun k => ldB _ 3 (by norm_num) _ i k) rfl
        (fun e => by show 128 + (64 + (e : ℕ)) = 64 * 3 + e; omega) (by show 128 + (x1 : ℕ) = 64 * 3 + (d : ℕ) % 64; omega)
  · idx_vars x
    obtain rfl : i = x0 := Fin.ext h0
    have hd : (d : ℕ) = 0 + (x1 : ℕ) := by first | exact h1 | exact h1.trans (Nat.zero_add _).symm
    apply Eq.trans
    · apply pay55_at
    split
    · have hn' : (⟨(d : ℕ) / 64, by omega⟩ : Fin 8) = ⟨0, by norm_num⟩ := Fin.ext (by show (d : ℕ) / 64 = 0; omega)
      rw [hn']
      exact headB m c t _ (up i) i ⟨0, by norm_num⟩ _ 768 (by norm_num) 0 (by norm_num) lo x1 _ (sb0_u _ _ _ _ i) (fun k => ldB _ 0 (by norm_num) _ i k) rfl
        (fun e => by show 0 + ((e : ℕ)) = 64 * 0 + e; omega) (by show 0 + (x1 : ℕ) = 64 * 0 + (d : ℕ) % 64; omega)
    · have hn' : (⟨(d : ℕ) / 64, by omega⟩ : Fin 8) = ⟨1, by norm_num⟩ := Fin.ext (by show (d : ℕ) / 64 = 1; omega)
      rw [hn']
      exact headB m c t _ (dn i) i ⟨1, by norm_num⟩ _ 832 (by norm_num) 0 (by norm_num) hi x1 _ (sb0_d _ _ _ _ i) (fun k => ldB _ 1 (by norm_num) _ i k) rfl
        (fun e => by show 0 + (64 + (e : ℕ)) = 64 * 1 + e; omega) (by show 0 + (x1 : ℕ) = 64 * 1 + (d : ℕ) % 64; omega)

end Cert.AttnTile
end
end
-- ==== Proof.AttnArr.lean ====
module
public import proofs.«01_k».proof.Proof.AttnOut
@[expose] public section
set_option maxRecDepth 16384
noncomputable section
namespace Cert.AttnTile
open Idealize.ShloMosaic Idealize.ShloMosaic.TcCoe Idealize.SL.Sem Cert.AttnIdeal Cert.AttnIdeal.Gen Cert.AttnSoft
open Idealize.ShloMosaic.Pipeline (Dat)
variable (m : (ℓ : Loc nD τ sig) → Buf (Elt Ideal) ℓ)

/-! # The arrays the call leaves -/

abbrev bR (r : Fin 128) : Fin 8 := ⟨r / 16, by omega⟩
abbrev iR (r : Fin 128) : Fin 16 := ⟨r % 16, by omega⟩
abbrev nC (d : Fin 512) : Fin 8 := ⟨d / 64, by omega⟩
abbrev dC (d : Fin 512) : Fin 64 := ⟨d % 64, by omega⟩

def G9 (c : Dev nD) : FVec Ideal S128x512 .f32 := fun j => outA (aSk m c) (aP m c) (aAK m c) (aAV m c) (aBA m c) (bR (j 0)) (iR (j 0)) (nC (j 1)) (dC (j 1))
def G10 (c : Dev nD) : FVec Ideal S128x512 .f32 := fun j => outB (aP m c) (aBK m c) (aBV m c) (aBB m c) (bR (j 0)) (iR (j 0)) (nC (j 1)) (dC (j 1))
def G11 (c : Dev nD) : FVec Ideal S128x128 .f32 := fun j => aP m c (ix2 (j 0) ⟨512 + (j 1 : ℕ), by have : (j 1 : ℕ) < 128 := (j 1).isLt; omega⟩)
def G12 (c : Dev nD) : FVec Ideal S128x128 .f32 := fun j => aP m c (ix2 (j 0) ⟨640 + (j 1 : ℕ), by have : (j 1 : ℕ) < 128 := (j 1).isLt; omega⟩)
def G13 (c : Dev nD) : FVec Ideal S128x512 .f32 := fun j => aP m c (ix2 (j 0) ⟨1280 + (j 1 : ℕ), by have : (j 1 : ℕ) < 512 := (j 1).isLt; omega⟩)
def G14 (c : Dev nD) : FVec Ideal S128x512 .f32 := fun j => aP m c (ix2 (j 0) ⟨1792 + (j 1 : ℕ), by have : (j 1 : ℕ) < 512 := (j 1).isLt; omega⟩)

theorem idxO : ∀ t : Fin cfg0.N, win0_9.index t = ![t.val, 0] ∧ win0_10.index t = ![t.val, 0] ∧ win0_11.index t = ![t.val, 0]
    ∧ win0_12.index t = ![t.val, 0] ∧ win0_13.index t = ![t.val, 0] ∧ win0_14.index t = ![t.val, 0] := (by decide +kernel : ∀ t : Fin grid0.N, _)

theorem row_eq (t : Fin cfg0.N) (i : Fin 16) (r : Fin 128) (h : (r : ℕ) = 16 * t.val + i) : bR r = bOf t ∧ iR r = i :=
  ⟨Fin.ext (by show (r : ℕ) / 16 = t.val; omega), Fin.ext (by show (r : ℕ) % 16 = i; omega)⟩

theorem point11 (c : Dev nD) (t : Fin cfg0.N) (i : Fin 16) (d : Fin 128) :
    ((outsAt0 m c t).2.2.1 : Vec Ideal S16x128 .f32) (ix2 i d) = aP m c (ix2 (rowOf (bOf t) i) ⟨512 + d, by omega⟩) := by
  unfold outsAt0
  frame_out
  pointwise [k0_pay1]
  exact b1 m c t _ _
theorem point12 (c : Dev nD) (t : Fin cfg0.N) (i : Fin 16) (d : Fin 128) :
    ((outsAt0 m c t).2.2.2.1 : Vec Ideal S16x128 .f32) (ix2 i d) = aP m c (ix2 (rowOf (bOf t) i) ⟨640 + d, by omega⟩) := by
  unfold outsAt0
  frame_out
  pointwise [k0_pay2]
  exact b1 m c t _ _
theorem point13 (c : Dev nD) (t : Fin cfg0.N) (i : Fin 16) (d : Fin 512) :
    ((outsAt0 m c t).2.2.2.2.1 : Vec Ideal S16x512 .f32) (ix2 i d) = aP m c (ix2 (rowOf (bOf t) i) ⟨1280 + d, by omega⟩) := by
  unfold outsAt0
  frame_out
  pointwise [k0_pay3]
  exact b1 m c t _ _
theorem point14 (c : Dev nD) (t : Fin cfg0.N) (i : Fin 16) (d : Fin 512) :
    ((outsAt0 m c t).2.2.2.2.2 : Vec Ideal S16x512 .f32) (ix2 i d) = aP m c (ix2 (rowOf (bOf t) i) ⟨1792 + d, by omega⟩) := by
  unfold outsAt0
  frame_out
  pointwise [k0_pay4]
  exact b1 m c t _ _
theorem G9_at (c : Dev nD) (t : Fin cfg0.N) (i : Fin 16) (d : Fin 512) :
    G9 m c (ix2 (rowOf (bOf t) i) d) = outA (aSk m c) (aP m c) (aAK m c) (aAV m c) (aBA m c) (bOf t) i ⟨d / 64, by omega⟩ ⟨d % 64, by omega⟩ := by
  obtain ⟨hb, hi⟩ := row_eq t i (rowOf (bOf t) i) rfl
  show outA _ _ _ _ _ (bR (rowOf (bOf t) i)) (iR (rowOf (bOf t) i)) _ _ = _
  rw [hb, hi]
  rfl
theorem G10_at (c : Dev nD) (t : Fin cfg0.N) (i : Fin 16) (d : Fin 512) :
    G10 m c (ix2 (rowOf (bOf t) i) d) = outB (aP m c) (aBK m c) (aBV m c) (aBB m c) (bOf t) i ⟨d / 64, by omega⟩ ⟨d % 64, by omega⟩ := by
  obtain ⟨hb, hi⟩ := row_eq t i (rowOf (bOf t) i) rfl
  show outB _ _ _ _ (bR (rowOf (bOf t) i)) (iR (rowOf (bOf t) i)) _ _ = _
  rw [hb, hi]
  rfl
theorem arr9 (c : Dev nD) : (dats m 0 c).arrAt 9 cfg0.N = G9 m c := by
  refine (dats m 0 c).arrAt_eq_of_covers 9 _ (by decide +kernel) fun t hf y => ?_
  idx_vars y
  blk_simp
  rw [after0_9]
  have e : G9 m c ((win0_9.blk t).view.emb (ix2 y0 y1)) = G9 m c (ix2 (rowOf (bOf t) y0) y1) := by blk_ext [idxO t]
  exact (point9 m c t y0 y1).trans ((G9_at m c t y0 y1).symm.trans e.symm)
theorem arr10 (c : Dev nD) : (dats m 0 c).arrAt 10 cfg0.N = G10 m c := by
  refine (dats m 0 c).arrAt_eq_of_covers 10 _ (by decide +kernel) fun t hf y => ?_
  idx_vars y
  blk_simp
  rw [after0_10]
  have e : G10 m c ((win0_10.blk t).view.emb (ix2 y0 y1)) = G10 m c (ix2 (rowOf (bOf t) y0) y1) := by blk_ext [idxO t]
  exact (point10 m c t y0 y1).trans ((G10_at m c t y0 y1).symm.trans e.symm)
theorem arr11 (c : Dev nD) : (dats m 0 c).arrAt 11 cfg0.N = G11 m c := by
  refine (dats m 0 c).arrAt_eq_of_covers 11 _ (by decide +kernel) fun t hf y => ?_
  idx_vars y
  blk_simp
  rw [after0_11]
  have e : G11 m c ((win0_11.blk t).view.emb (ix2 y0 y1)) = G11 m c (ix2 (rowOf (bOf t) y0) y1) := by blk_ext [idxO t]
  exact Eq.trans (b := G11 m c (ix2 (rowOf (bOf t) y0) y1)) (point11 m c t y0 y1) e.symm
theorem arr12 (c : Dev nD) : (dats m 0 c).arrAt 12 cfg0.N = G12 m c := by
  refine (dats m 0 c).arrAt_eq_of_covers 12 _ (by decide +kernel) fun t hf y => ?_
  idx_vars y
  blk_simp
  rw [after0_12]
  have e : G12 m c ((win0_12.blk t).view.emb (ix2 y0 y1)) = G12 m c (ix2 (rowOf (bOf t) y0) y1) := by blk_ext [idxO t]
  exact Eq.trans (b := G12 m c (ix2 (rowOf (bOf t) y0) y1)) (point12 m c t y0 y1) e.symm
theorem arr13 (c : Dev nD) : (dats m 0 c).arrAt 13 cfg0.N = G13 m c := by
  refine (dats m 0 c).arrAt_eq_of_covers 13 _ (by decide +kernel) fun t hf y => ?_
  idx_vars y
  blk_simp
  rw [after0_13]
  have e : G13 m c ((win0_13.blk t).view.emb (ix2 y0 y1)) = G13 m c (ix2 (rowOf (bOf t) y0) y1) := by blk_ext [idxO t]
  exact Eq.trans (b := G13 m c (ix2 (rowOf (bOf t) y0) y1)) (point13 m c t y0 y1) e.symm
theorem arr14 (c : Dev nD) : (dats m 0 c).arrAt 14 cfg0.N = G14 m c := by
  refine (dats m 0 c).arrAt_eq_of_covers 14 _ (by decide +kernel) fun t hf y => ?_
  idx_vars y
  blk_simp
  rw [after0_14]
  have e : G14 m c ((win0_14.blk t).view.emb (ix2 y0 y1)) = G14 m c (ix2 (rowOf (bOf t) y0) y1) := by blk_ext [idxO t]
  exact Eq.trans (b := G14 m c (ix2 (rowOf (bOf t) y0) y1)) (point14 m c t y0 y1) e.symm
end Cert.AttnTile
end
end
-- ==== Proof.AttnRead.lean ====
module
public import proofs.«01_k».proof.Proof.AttnArr
public import proofs.«01_k».proof.Proof.Gen.AttnRefIdeal.Run
public import proofs.«01_k».proof.Proof.Gen.AttnRefIdeal.Read
@[expose] public section
set_option maxRecDepth 16384
noncomputable section

namespace Cert.AttnRefTile
open Idealize.ShloMosaic Idealize.ShloMosaic.TcCoe Idealize.SL.Sem Cert.AttnRefIdeal Cert.AttnRefIdeal.Gen Cert.AttnRefIdeal.Read
open Cert.AttnTile (rwA rwB scA scB rowOf bR iR nC dC)
open Cert.AttnSoft
variable (S : FVec Ideal S8 .f32) (P : FVec Ideal S128x4352 .f32) (AK AV : FVec Ideal S8x128x128 .f32) (BK BV : FVec Ideal S8x512x512 .f32)
  (BA : FVec Ideal S8x16x144 .f32) (BB : FVec Ideal S8x16x528 .f32)

/-! # The reference, entry by entry -/

/-- The rows of keys: the cache's, then the new ones. -/
theorem ka_at (b : Fin 8) (k : Fin 144) (g : Fin 2) (e : Fin 64) :
    val_main_v11 (F := Ideal) P AK (ix4 b k g e) = rwA AK P 512 (by norm_num) b k ⟨64 * g + e, by omega⟩ := by
  unfold rwA
  pointwise [val_main_v11, val_main_v10, val_main_v9, val_main_v3, val_main_v1, val_main_v0]
  by_cases h : (k : ℕ) < 128
  · rw [dif_pos h, dif_pos h]
    exact congrArg AK (congrArg (ix3 b (⟨k, h⟩ : Fin 128)) (Fin.ext (by show (g : ℕ) * 64 + e = 64 * g + e; omega)))
  · rw [dif_neg h, dif_neg h]
    exact congrArg₂ (fun (r : Fin 128) (l : Fin 4352) => P (ix2 r l)) (Fin.ext (by show (b : ℕ) * 16 + (k - 128) = 16 * b + (k - 128); omega))
      (Fin.ext (by show 512 + ((g : ℕ) * 64 + e) = 512 + (64 * g + e); omega))

/-- The rows of values: the cache's, then the new ones. -/
theorem va_at (b : Fin 8) (k : Fin 144) (g : Fin 2) (e : Fin 64) :
    val_main_v14 (F := Ideal) P AV (ix4 b k g e) = rwA AV P 640 (by norm_num) b k ⟨64 * g + e, by omega⟩ := by
  unfold rwA
  pointwise [val_main_v14, val_main_v13, val_main_v12, val_main_v4, val_main_v1, val_main_v0]
  by_cases h : (k : ℕ) < 128
  · rw [dif_pos h, dif_pos h]
    exact congrArg AV (congrArg (ix3 b (⟨k, h⟩ : Fin 128)) (Fin.ext (by show (g : ℕ) * 64 + e = 64 * g + e; omega)))
  · rw [dif_neg h, dif_neg h]
    exact congrArg₂ (fun (r : Fin 128) (l : Fin 4352) => P (ix2 r l)) (Fin.ext (by show (b : ℕ) * 16 + (k - 128) = 16 * b + (k - 128); omega))
      (Fin.ext (by show 640 + ((g : ℕ) * 64 + e) = 640 + (64 * g + e); omega))

/-- The rows of keys: the cache's, then the new ones. -/
theorem kb_at (b : Fin 8) (k : Fin 528) (g : Fin 8) (e : Fin 64) :
    val_main_v45 (F := Ideal) P BK (ix4 b k g e) = rwB BK P 1280 (by norm_num) b k ⟨64 * g + e, by omega⟩ := by
  unfold rwB
  pointwise [val_main_v45, val_main_v44, val_main_v43, val_main_v6, val_main_v1, val_main_v0]
  by_cases h : (k : ℕ) < 512
  · rw [dif_pos h, dif_pos h]
    exact congrArg BK (congrArg (ix3 b (⟨k, h⟩ : Fin 512)) (Fin.ext (by show (g : ℕ) * 64 + e = 64 * g + e; omega)))
  · rw [dif_neg h, dif_neg h]
    exact congrArg₂ (fun (r : Fin 128) (l : Fin 4352) => P (ix2 r l)) (Fin.ext (by show (b : ℕ) * 16 + (k - 512) = 16 * b + (k - 512); omega))
      (Fin.ext (by show 1280 + ((g : ℕ) * 64 + e) = 1280 + (64 * g + e); omega))

/-- The rows of values: the cache's, then the new ones. -/
theorem vb_at (b : Fin 8) (k : Fin 528) (g : Fin 8) (e : Fin 64) :
    val_main_v48 (F := Ideal) P BV (ix4 b k g e) = rwB BV P 1792 (by norm_num) b k ⟨64 * g + e, by omega⟩ := by
  unfold rwB
  pointwise [val_main_v48, val_main_v47, val_main_v46, val_main_v7, val_main_v1, val_main_v0]
  by_cases h : (k : ℕ) < 512
  · rw [dif_pos h, dif_pos h]
    exact congrArg BV (congrArg (ix3 b (⟨k, h⟩ : Fin 512)) (Fin.ext (by show (g : ℕ) * 64 + e = 64 * g + e; omega)))
  · rw [dif_neg h, dif_neg h]
    exact congrArg₂ (fun (r : Fin 128) (l : Fin 4352) => P (ix2 r l)) (Fin.ext (by show (b : ℕ) * 16 + (k - 512) = 16 * b + (k - 512); omega))
      (Fin.ext (by show 1792 + ((g : ℕ) * 64 + e) = 1792 + (64 * g + e); omega))

theorem sa_at (b : Fin 8) (g : Fin 2) (q : Fin 4) (i : Fin 16) (k : Fin 144) :
    val_main_v23 (F := Ideal) P AK BA (ix5 b g q i k) = scA P AK BA b i ⟨4 * g + q, by omega⟩ k := by
  unfold scA sc
  pointwise [val_main_v23, val_main_v22, val_main_v21, val_main_v20, val_main_v19, val_main_v18, val_main_v17, val_main_v15, val_main_v8, val_main_v2, val_main_v1, val_main_v0, val_main_cst]
  refine congrArg₂ (· + ·) (congrArg₂ (· * ·) (Finset.sum_congr rfl fun x _ => ?_) eighth)
    (congrArg (fun n : Fin 8 => BA (ix3 n i k)) (Fin.ext (by show (g : ℕ) * 4 + q = 4 * g + q; omega)))
  rw [ka_at, mul_comm]
  exact congrArg₂ (· * ·) (congrArg₂ (fun (r : Fin 128) (l : Fin 4352) => P (ix2 r l))
      (Fin.ext (by show (b : ℕ) * 16 + i = 16 * b + i; omega)) (Fin.ext (by show (g : ℕ) * 256 + q * 64 + x = 64 * (4 * g + q) + x; omega)))
    (congrArg (rwA AK P 512 (by norm_num) b k) (Fin.ext (by show 64 * (g : ℕ) + x = 64 * ((4 * g + q) / 4) + x; omega)))

theorem wa_at (b : Fin 8) (g : Fin 2) (q : Fin 4) (i : Fin 16) (k : Fin 144) :
    val_main_v39 (F := Ideal) S P AK BA (ix5 b g q i k) = Ideal.div (ex (scA P AK BA b i ⟨4 * g + q, by omega⟩) (S (ix1 ⟨4 * g + q, by omega⟩)) k)
      (ls (scA P AK BA b i ⟨4 * g + q, by omega⟩) (S (ix1 ⟨4 * g + q, by omega⟩))) := by
  have hn : (⟨(g : ℕ) * 4 + q, by omega⟩ : Fin 8) = ⟨4 * g + q, by omega⟩ := Fin.ext (by show (g : ℕ) * 4 + q = 4 * g + q; omega)
  pointwise [val_main_v39, val_main_v38, val_main_v37, val_main_v36, val_main_v35, val_main_v34, val_main_v33, val_main_v32, val_main_v31, val_main_v30, val_main_v29, val_main_v28, val_main_v27, val_main_v26, val_main_v25, val_main_v24, val_main_v16, val_main_cst_0, val_main_cst_1, sa_at]
  simp only [infB]
  rw [hn]
  rfl

/-- Attention A, entry by entry. -/
theorem oa_at (r : Fin 128) (d : Fin 512) :
    val_main_v68 (F := Ideal) S P AK AV BA (ix2 r d) = att (scA P AK BA (bR r) (iR r) (nC d)) (S (ix1 (nC d)))
      (fun k => rwA AV P 640 (by norm_num) (bR r) k ⟨64 * (nC d / 4) + dC d, by have := (dC d).isLt; have := (nC d).isLt; omega⟩) := by
  unfold att
  pointwise [val_main_v68, val_main_v41, val_main_v40]
  refine Finset.sum_congr rfl fun x _ => ?_
  have hn : (⟨4 * ((d : ℕ) / 256) + (d : ℕ) / 64 % 4, by omega⟩ : Fin 8) = nC d := Fin.ext (by show 4 * ((d : ℕ) / 256) + (d : ℕ) / 64 % 4 = d / 64; omega)
  rw [va_at, wa_at, mul_comm, hn]
  exact congrArg₂ (· * ·) rfl (congrArg (rwA AV P 640 (by norm_num) (bR r) x) (Fin.ext (by show 64 * ((d : ℕ) / 256) + d % 64 = 64 * (d / 64 / 4) + d % 64; omega)))

theorem sb_at (b : Fin 8) (n : Fin 8) (i : Fin 16) (k : Fin 528) :
    val_main_v56 (F := Ideal) P BK BB (ix5 b n 0 i k) = scB P BK BB b i n k := by
  unfold scB sc
  pointwise [val_main_v56, val_main_v55, val_main_v54, val_main_v53, val_main_v52, val_main_v51, val_main_v50, val_main_v49, val_main_v42, val_main_v5, val_main_v1, val_main_v0, val_main_cst_2]
  refine congrArg₂ (· + ·) (congrArg₂ (· * ·) (Finset.sum_congr rfl fun x _ => ?_) eighth) rfl
  rw [kb_at, mul_comm]
  exact congrArg₂ (· * ·) (congrArg₂ (fun (r : Fin 128) (l : Fin 4352) => P (ix2 r l))
      (Fin.ext (by show (b : ℕ) * 16 + i = 16 * b + i; omega)) (Fin.ext (by show 768 + ((n : ℕ) * 64 + x) = 768 + 64 * n + x; omega)))
    rfl

theorem wb_at (b : Fin 8) (n : Fin 8) (i : Fin 16) (k : Fin 528) :
    val_main_v65 (F := Ideal) P BK BB (ix5 b n 0 i k) = Ideal.div (ex (scB P BK BB b i n) ⊥ k) (ls (scB P BK BB b i n) ⊥) := by
  rw [ls_bot]
  unfold ex
  rw [mx_bot]
  pointwise [val_main_v65, val_main_v64, val_main_v63, val_main_v62, val_main_v61, val_main_v60, val_main_v59, val_main_v58, val_main_v57, val_main_cst_3, val_main_cst_4, sb_at]
  simp only [infB]

/-- Attention B, entry by entry. -/
theorem ob_at (r : Fin 128) (d : Fin 512) :
    val_main_v69 (F := Ideal) P BK BV BB (ix2 r d) = att (scB P BK BB (bR r) (iR r) (nC d)) ⊥
      (fun k => rwB BV P 1792 (by norm_num) (bR r) k ⟨64 * nC d + dC d, by have := (dC d).isLt; have := (nC d).isLt; omega⟩) := by
  unfold att
  pointwise [val_main_v69, val_main_v67, val_main_v66]
  refine Finset.sum_congr rfl fun x _ => ?_
  rw [vb_at, mul_comm]
  exact congrArg₂ (· * ·) (wb_at _ _ _ _ _ _ _) rfl

theorem ra_at (r : Fin 128) (d : Fin 128) : val_main_v70 (F := Ideal) P (ix2 r d) = P (ix2 r ⟨512 + d, by omega⟩) := by
  pointwise [val_main_v70, val_main_v3, val_main_v1, val_main_v0]

theorem rb_at (r : Fin 128) (d : Fin 128) : val_main_v71 (F := Ideal) P (ix2 r d) = P (ix2 r ⟨640 + d, by omega⟩) := by
  pointwise [val_main_v71, val_main_v4, val_main_v1, val_main_v0]

theorem rc_at (r : Fin 128) (d : Fin 512) : val_main_v72 (F := Ideal) P (ix2 r d) = P (ix2 r ⟨1280 + d, by omega⟩) := by
  pointwise [val_main_v72, val_main_v6, val_main_v1, val_main_v0]

theorem rd_at (r : Fin 128) (d : Fin 512) : val_main_v73 (F := Ideal) P (ix2 r d) = P (ix2 r ⟨1792 + d, by omega⟩) := by
  pointwise [val_main_v73, val_main_v7, val_main_v1, val_main_v0]

end Cert.AttnRefTile
end
end
-- ==== Proof.AttnReal.lean ====
module
public import proofs.«01_k».proof.Defs
public import proofs.«01_k».proof.Proof.AttnArr
public import proofs.«01_k».proof.Proof.Gen.Pre_finite_scores
@[expose] public section
set_option maxRecDepth 16384
noncomputable section
namespace Cert.AttnReal
open Idealize.ShloMosaic Idealize.ShloMosaic.TcCoe Idealize.SL.Sem
open Cert.AttnTile Cert.AttnSoft

/-! # The scores are numbers -/

theorem inf_top : Ideal.ofBits .f32 0x7F800000#32 = ⊤ := by
  simp [Ideal.ofBits, Ideal.ieee]

/-- An entry whose size is below `⊤` is a number. -/
theorem real_of {s : Shape} (x : FVec Ideal s .f32) (T : FVec Ideal s .f32) (hT : ∀ j, T j = ⊤) (h : cmpf .olt (Host.absf x) T = fun _ => 1#1) (j : s.Idx) :
    ∃ r : ℝ, x j = r := by
  have h1 := congrFun h j
  have h2 : BitVec.ofBool (decide (max (x j) (-(x j)) < T j)) = 1#1 := h1
  rw [hT] at h2
  have h3 : max (x j) (-(x j)) < ⊤ := by
    by_contra hc
    rw [decide_eq_false hc] at h2
    exact absurd h2 (by decide)
  obtain ⟨y, hy⟩ : ∃ y : EReal, x j = y := ⟨_, rfl⟩
  rw [hy] at h3 ⊢
  induction y using EReal.rec with
  | bot => exact absurd h3 (by simp)
  | top => exact absurd h3 (by simp)
  | coe r => exact ⟨r, rfl⟩

variable (m : (ℓ : Loc Cert.AttnIdeal.nD Cert.AttnIdeal.τ Cert.AttnIdeal.sig) → Buf (Elt Ideal) ℓ)

section
variable (h : Cert.Pre_AttnIdeal_finite_scores m) (c : Dev Cert.AttnIdeal.nD)
include h
theorem rS (j) : ∃ r : ℝ, aSk m c j = r := real_of _ _ (fun _ => inf_top) (h c).1 j
theorem rP (j) : ∃ r : ℝ, aP m c j = r := real_of _ _ (fun _ => inf_top) (h c).2.1 j
theorem rAK (j) : ∃ r : ℝ, aAK m c j = r := real_of _ _ (fun _ => inf_top) (h c).2.2.1 j
theorem rBK (j) : ∃ r : ℝ, aBK m c j = r := real_of _ _ (fun _ => inf_top) (h c).2.2.2.1 j
theorem rBA (j) : ∃ r : ℝ, aBA m c j = r := real_of _ _ (fun _ => inf_top) (h c).2.2.2.2.1 j
theorem rBB (j) : ∃ r : ℝ, aBB m c j = r := real_of _ _ (fun _ => inf_top) (h c).2.2.2.2.2 j

theorem scA_real (b : Fin 8) (i : Fin 16) (n : Fin 8) (k : Fin 144) : ∃ r : ℝ, scA (aP m c) (aAK m c) (aBA m c) b i n k = r := by
  refine sc_real _ _ _ (fun d => rP m h c _) (fun d => ?_) (rBA m h c _)
  unfold rwA
  split
  · exact rAK m h c _
  · exact rP m h c _
theorem scB_real (b : Fin 8) (i : Fin 16) (n : Fin 8) (k : Fin 528) : ∃ r : ℝ, scB (aP m c) (aBK m c) (aBB m c) b i n k = r := by
  refine sc_real _ _ _ (fun d => rP m h c _) (fun d => ?_) (rBB m h c _)
  unfold rwB
  split
  · exact rBK m h c _
  · exact rP m h c _

theorem outA_att (b : Fin 8) (i : Fin 16) (n : Fin 8) (d : Fin 64) :
    outA (aSk m c) (aP m c) (aAK m c) (aAV m c) (aBA m c) b i n d = att (scA (aP m c) (aAK m c) (aBA m c) b i n) (aSk m c (ix1 n))
      (fun k => rwA (aAV m c) (aP m c) 640 (by norm_num) b k ⟨64 * (n / 4) + d, by omega⟩) := by
  refine kout_eq_att _ _ _ (scA_real m h c b i n) ?_
  obtain ⟨r, hr⟩ := rS m h c (ix1 n)
  rw [hr]
  exact EReal.coe_ne_top r
theorem outB_att (b : Fin 8) (i : Fin 16) (n : Fin 8) (d : Fin 64) :
    outB (aP m c) (aBK m c) (aBV m c) (aBB m c) b i n d = att (scB (aP m c) (aBK m c) (aBB m c) b i n) ⊥
      (fun k => rwB (aBV m c) (aP m c) 1792 (by norm_num) b k ⟨64 * n + d, by omega⟩) :=
  kout_eq_att _ _ _ (scB_real m h c b i n) bot_ne_top
end

end Cert.AttnReal
end
end
-- ==== Proof.AttnClaim.lean ====
module
public import proofs.«01_k».proof.Defs
public import proofs.«01_k».proof.Proof.AttnReal
public import proofs.«01_k».proof.Proof.AttnRead
public import Idealize.ShloMosaic.Lib.Quiescent
@[expose] public section
set_option maxRecDepth 16384
noncomputable section

namespace Cert.AttnClaim
open Idealize.ShloMosaic Idealize.ShloMosaic.TcCoe Idealize.SL.Sem
open Cert.AttnTile Cert.AttnReal Cert.AttnRefTile
open Cert.AttnRefIdeal.Read

variable (m : (ℓ : Loc Cert.AttnIdeal.nD Cert.AttnIdeal.τ Cert.AttnIdeal.sig) → Buf (Elt Ideal) ℓ)

/-! # The kernel's six arrays are the reference's -/

theorem eq0 (h : Cert.Pre_AttnIdeal_finite_scores m) (c : Dev Cert.AttnIdeal.nD) : val_main_v68 (F := Ideal) (aSk m c) (aP m c) (aAK m c) (aAV m c) (aBA m c) = G9 m c := by
  funext j
  idx_vars j
  exact (oa_at _ _ _ _ _ _ _).trans (outA_att m h c (bR j0) (iR j0) (nC j1) (dC j1)).symm

theorem eq1 (h : Cert.Pre_AttnIdeal_finite_scores m) (c : Dev Cert.AttnIdeal.nD) : val_main_v69 (F := Ideal) (aP m c) (aBK m c) (aBV m c) (aBB m c) = G10 m c := by
  funext j
  idx_vars j
  exact (ob_at _ _ _ _ _ _).trans (outB_att m h c (bR j0) (iR j0) (nC j1) (dC j1)).symm

theorem eq2 (c : Dev Cert.AttnIdeal.nD) : val_main_v70 (F := Ideal) (aP m c) = G11 m c := by
  funext j
  idx_vars j
  exact ra_at _ _ _

theorem eq3 (c : Dev Cert.AttnIdeal.nD) : val_main_v71 (F := Ideal) (aP m c) = G12 m c := by
  funext j
  idx_vars j
  exact rb_at _ _ _

theorem eq4 (c : Dev Cert.AttnIdeal.nD) : val_main_v72 (F := Ideal) (aP m c) = G13 m c := by
  funext j
  idx_vars j
  exact rc_at _ _ _

theorem eq5 (c : Dev Cert.AttnIdeal.nD) : val_main_v73 (F := Ideal) (aP m c) = G14 m c := by
  funext j
  idx_vars j
  exact rd_at _ _ _

/-- Every run of the kernel and every run of the reference leave the same six arrays. -/
theorem algebraic : Cert.algebraic_AttnIdeal_AttnRefIdeal_pre_finite_scores := fun m g m' g' hp hag =>
  ⟨fun c => G9 m c, fun c => G10 m c, fun c => G11 m c, fun c => G12 m c, fun c => G13 m c, fun c => G14 m c,
    (θ_run _ _ _).mono (fun r h c => by
      obtain ⟨h9, h10, h11, h12, h13, h14, hk⟩ := h c
      exact ⟨h9.trans (arr9 m c), h10.trans (arr10 m c), h11.trans (arr11 m c), h12.trans (arr12 m c), h13.trans (arr13 m c), h14.trans (arr14 m c), hk⟩) (Cert.AttnIdeal.Value.run_blocks m g),
    (θ_run _ _ _).mono (fun r h c => by
      obtain ⟨e0, e1, e2, e3, e4, e5, e6, e7⟩ := hag c
      obtain ⟨h9, h10, h11, h12, h13, h14, hk⟩ := h c
      refine ⟨h9.trans ?_, h10.trans ?_, h11.trans ?_, h12.trans ?_, h13.trans ?_, h14.trans ?_, hk⟩
      · rw [val_main_v68_eq, e0, e1, e2, e3, e6]
        exact eq0 m hp c
      · rw [val_main_v69_eq, e1, e4, e5, e7]
        exact eq1 m hp c
      · rw [val_main_v70_eq, e1]
        exact eq2 m c
      · rw [val_main_v71_eq, e1]
        exact eq3 m c
      · rw [val_main_v72_eq, e1]
        exact eq4 m c
      · rw [val_main_v73_eq, e1]
        exact eq5 m c) (Cert.AttnRefIdeal.Value.run m' g')⟩

/-- Every run of the reference keeps its arguments; it has no semaphores. -/
theorem refFrame : Cert.quiescent_AttnRefIdeal := fun m g _ =>
  (θ_run _ _ _).mono (fun r h => ⟨fun c => (h c).2.2.2.2.2.2, sem_eq_zero_of_no_sems (by decide) r.2⟩) (Cert.AttnRefIdeal.Value.run m g)
theorem refFrame' : Cert.quiescent_AttnRefIdeal_pre_finite_scores := fun m g _ =>
  (θ_run _ _ _).mono (fun r h => ⟨fun c => (h c).2.2.2.2.2.2, sem_eq_zero_of_no_sems (by decide) r.2⟩) (Cert.AttnRefIdeal.Value.run m g)

end Cert.AttnClaim
end
end
-- ==== Proof.ProjClaim.lean ====
module
public import proofs.«01_k».proof.Defs
public import proofs.«01_k».proof.Proof.FfnTile
public import proofs.«01_k».proof.Proof.Gen.ProjIdeal.Value
public import proofs.«01_k».proof.Proof.Gen.ProjRefIdeal.Run
public import proofs.«01_k».proof.Proof.Gen.ProjRefIdeal.Read
public import Idealize.ShloMosaic.Lib.Pointwise
public import Idealize.ShloMosaic.Lib.Pipeline.ValueKit
public import Idealize.ShloMosaic.Lib.Pipeline.ReadBack
public import Idealize.ShloMosaic.Lib.Quiescent
@[expose] public section
set_option maxRecDepth 16384
noncomputable section
namespace Cert.ProjTile
open Idealize.ShloMosaic Idealize.ShloMosaic.TcCoe Idealize.SL.Sem Cert.ProjIdeal Cert.ProjIdeal.Gen
open Idealize.ShloMosaic.Pipeline (Dat)
open Cert.FfnTile (hS rmsS)
variable (m : (ℓ : Loc nD τ sig) → Buf (Elt Ideal) ℓ)

/-! # The sample's projection: normalised rows times a matrix, in two blocks of columns -/

abbrev aX (c : Dev nD) : FVec Ideal S128x1024 .f32 := m ((c : Thread nD τ).loc main_arg0)
abbrev aG (c : Dev nD) : FVec Ideal S1x1024 .f32 := m ((c : Thread nD τ).loc main_arg1)
abbrev aW (c : Dev nD) : FVec Ideal S1024x4352 .f32 := m ((c : Thread nD τ).loc main_arg2)

/-- One entry of the projection. -/
def projS (X : FVec Ideal S128x1024 .f32) (g : FVec Ideal S1x1024 .f32) (W : FVec Ideal S1024x4352 .f32) (r : Fin 128) (f : Fin 4352) : EReal :=
  ∑ k : Fin 1024, hS (fun k => X (ix2 r k)) (fun k => g (ix2 0 k)) k * W (ix2 k f)

/-- The array the call leaves. -/
def G3 (c : Dev nD) : FVec Ideal S128x4352 .f32 := fun j => projS (aX m c) (aG m c) (aW m c) (j 0) (j 1)

theorem idx : ∀ t : Fin cfg0.N, win0_0.index t = ![0, 0] ∧ win0_1.index t = ![0, 0] ∧ win0_2.index t = ![0, t.val] ∧ win0_3.index t = ![0, t.val]
    ∧ t.val < 2 := (by decide +kernel : ∀ t : Fin grid0.N, _)

theorem b0 (c : Dev nD) (t : Fin cfg0.N) : (iblk m c 0 t : Vec Ideal S128x1024 .f32) = aX m c := by
  blk_ext! [iblk, V, idx t]
theorem b1 (c : Dev nD) (t : Fin cfg0.N) : (iblk m c 1 t : Vec Ideal S1x1024 .f32) = aG m c := by
  blk_ext! [iblk, V, idx t]
theorem vW (c : Dev nD) (j : S1024x4352.Idx) : (V m c main_v0 : FVec Ideal S1024x4352 .bf16) j = aW m c j := by
  entry_read
  rfl
theorem b2 (c : Dev nD) (t : Fin cfg0.N) (k : Fin 1024) (f : Fin 2176) (g : Fin 4352) (hg : (g : ℕ) = t.val * 2176 + f) :
    (iblk m c 2 t : Vec Ideal S1024x2176 .bf16) (ix2 k f) = aW m c (ix2 k g) := by
  rw [← vW]
  blk_ext [iblk, idx t]

theorem pay_at (x : Vec Ideal S128x1024 .f32) (g : Vec Ideal S1x1024 .f32) (w : Vec Ideal S1024x2176 .bf16) (r : Fin 128) (f : Fin 2176) :
    k0_pay1 (F := Ideal) x g w (ix2 r f) = ∑ k : Fin 1024, hS (fun k => x (ix2 r k)) (fun k => g (ix2 0 k)) k * w (ix2 k f) := by
  pointwise [k0_pay1, hS, rmsS]

theorem arr3 (c : Dev nD) : (dats m 0 c).arrAt 3 cfg0.N = G3 m c := by
  refine (dats m 0 c).arrAt_eq_of_covers 3 _ (by decide +kernel) fun t hf y => ?_
  idx_vars y
  blk_simp
  rw [after0_3]
  unfold out0_3
  frame_out
  rw [b0, b1]
  have ht : t.val < 2 := (idx t).2.2.2.2
  have e : G3 m c ((win0_3.blk t).view.emb (ix2 y0 y1)) = G3 m c (ix2 y0 ⟨t.val * 2176 + y1, by omega⟩) := by blk_ext [idx t]
  refine Eq.trans (b := G3 m c (ix2 y0 ⟨t.val * 2176 + y1, by omega⟩)) ((pay_at _ _ _ _ _).trans ?_) e.symm
  exact Finset.sum_congr rfl fun k _ => congrArg (fun z : EReal => hS (fun k => aX m c (ix2 y0 k)) (fun k => aG m c (ix2 0 k)) k * z) (b2 m c t k y1 _ rfl)

end Cert.ProjTile

namespace Cert.ProjRefTile
open Idealize.ShloMosaic Idealize.ShloMosaic.TcCoe Idealize.SL.Sem Cert.ProjRefIdeal Cert.ProjRefIdeal.Gen Cert.ProjRefIdeal.Read
open Cert.FfnTile (hS rmsS)
open Cert.ProjTile (projS)

/-- The reference, entry by entry. -/
theorem out_at (X : FVec Ideal S128x1024 .f32) (g : FVec Ideal S1x1024 .f32) (W : FVec Ideal S1024x4352 .f32) (r : Fin 128) (f : Fin 4352) :
    val_main_v14 (F := Ideal) X g W (ix2 r f) = projS X g W r f := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1, projS, hS, rmsS]

end Cert.ProjRefTile

namespace Cert.ProjClaim
open Idealize.ShloMosaic Idealize.ShloMosaic.TcCoe Idealize.SL.Sem
open Cert.ProjTile (G3)

/-- The reference's result over the kernel's arguments is the kernel's array. -/
theorem out_eq (m : (ℓ : Loc Cert.ProjIdeal.nD Cert.ProjIdeal.τ Cert.ProjIdeal.sig) → Buf (Elt Ideal) ℓ) (c : Dev Cert.ProjIdeal.nD) :
    Cert.ProjRefIdeal.Read.val_main_v14 (F := Ideal) (Cert.ProjTile.aX m c) (Cert.ProjTile.aG m c) (Cert.ProjTile.aW m c) = G3 m c := by
  funext j
  idx_vars j
  exact Cert.ProjRefTile.out_at _ _ _ _ _

/-- Every run of the kernel and every run of the reference leave the same array. -/
theorem algebraic : Cert.algebraic_ProjIdeal_ProjRefIdeal := fun m g m' g' _ hag =>
  ⟨fun c => G3 m c,
    (θ_run _ _ _).mono (fun r h c => ⟨(h c).1.trans (Cert.ProjTile.arr3 m c), (h c).2⟩) (Cert.ProjIdeal.Value.run_blocks m g),
    (θ_run _ _ _).mono (fun r h c => ⟨(h c).1.trans (by
        obtain ⟨e0, e1, e2⟩ := hag c
        rw [Cert.ProjRefIdeal.Read.val_main_v14_eq, e0, e1, e2]
        exact out_eq m c), (h c).2⟩) (Cert.ProjRefIdeal.Value.run m' g')⟩

/-- Every run of the reference keeps its arguments; it has no semaphores. -/
theorem refFrame : Cert.quiescent_ProjRefIdeal := fun m g _ =>
  (θ_run _ _ _).mono (fun r h => ⟨fun c => (h c).2, sem_eq_zero_of_no_sems (by decide) r.2⟩) (Cert.ProjRefIdeal.Value.run m g)

end Cert.ProjClaim
end
end
-- ==== Proof.TailOps.lean ====
module
public import proofs.«01_k».proof.Proof.FfnTile
public import proofs.«01_k».proof.Proof.Gen.TailIdeal.Skeleton
public import Idealize.ShloMosaic.Lib.Pointwise
public import Idealize.ShloMosaic.Lib.WordCmp
@[expose] public section
set_option maxRecDepth 16384
noncomputable section
namespace Cert.TailTile
open Idealize.ShloMosaic Idealize.ShloMosaic.TcCoe Idealize.SL.Sem Cert.TailIdeal Cert.TailIdeal.Gen
open Cert.FfnTile (hS rmsS convS cdfS geluS sel_eq)

/-! # The sample's last call, operation by operation -/

/-- The gated sum of the two attention outputs. -/
def mgS (oa ob : Vec Ideal S128x512 .f32) (ga gb : Vec Ideal S128x1024 .f32) (wa wb : Vec Ideal S512x1024 .bf16) (r : Fin 128) (k : Fin 1024) : EReal :=
  Ideal.logistic (ga (ix2 r k)) * (∑ j : Fin 512, oa (ix2 r j) * wa (ix2 j k)) + Ideal.logistic (gb (ix2 r k)) * (∑ j : Fin 512, ob (ix2 r j) * wb (ix2 j k))

/-- The first residual. -/
def x1T (oa : Vec Ideal S128x512 .f32) (wa : Vec Ideal S512x1024 .bf16) (ob : Vec Ideal S128x512 .f32) (wb : Vec Ideal S512x1024 .bf16) (ga gb : Vec Ideal S128x1024 .f32)
    (wo : Vec Ideal S1024x1024 .bf16) (x : Vec Ideal S128x1024 .f32) (g : Vec Ideal S1x1024 .f32) : FVec Ideal S128x1024 .f32 :=
  fun j => x j + hS (fun d => ∑ k : Fin 1024, mgS oa ob ga gb wa wb (j 0) k * wo (ix2 k d)) (fun d => g (ix2 0 d)) (j 1)

/-- The normalised rows. -/
def hT (x : FVec Ideal S128x1024 .f32) (g : Vec Ideal S1x1024 .f32) : FVec Ideal S128x1024 .bf16 :=
  fun j => hS (fun k => x (ix2 (j 0) k)) (fun k => g (ix2 0 k)) (j 1)

/-- The rows through one block of columns of the up projection. -/
def mmT (H : Vec Ideal S128x1024 .bf16) (W : Vec Ideal S1024x512 .bf16) : FVec Ideal S128x512 .f32 :=
  fun j => ∑ k : Fin 1024, H (ix2 (j 0) k) * W (ix2 k (j 1))

/-- The rows one earlier within each sample, its first row from the state. -/
def sh1T (u : FVec Ideal S128x512 .f32) (p : Vec Ideal S128x512 .f32) : FVec Ideal S128x512 .f32 :=
  fun j => if (j 0 : ℕ) % 16 = 0 then p (ix2 ⟨((j 0 : ℕ) + 1) % 128, Nat.mod_lt _ (by norm_num)⟩ (j 1)) else u (ix2 ⟨((j 0 : ℕ) + 127) % 128, Nat.mod_lt _ (by norm_num)⟩ (j 1))

/-- The rows two earlier within each sample, its first two rows from the state. -/
def sh2T (u : FVec Ideal S128x512 .f32) (p : Vec Ideal S128x512 .f32) : FVec Ideal S128x512 .f32 :=
  fun j => if (j 0 : ℕ) % 16 < 2 then p j else u (ix2 ⟨((j 0 : ℕ) + 126) % 128, Nat.mod_lt _ (by norm_num)⟩ (j 1))

/-- Convolution, GELU and gate of one block of columns. -/
def actT (u s1 s2 gt : FVec Ideal S128x512 .f32) (cw : Vec Ideal S3x512 .f32) (cb : Vec Ideal S1x512 .f32) : FVec Ideal S128x512 .f32 :=
  fun j => geluS (convS (cw (ix2 0 (j 1))) (cw (ix2 1 (j 1))) (cw (ix2 2 (j 1))) (cb (ix2 0 (j 1))) (s2 j) (s1 j) (u j)) * gt j

/-- The accumulated down projection after one more block of rows. -/
def accT (acc : FVec Ideal S128x1024 .f32) (a : FVec Ideal S128x512 .f32) (W : Vec Ideal S512x1024 .bf16) : FVec Ideal S128x1024 .f32 :=
  fun j => acc j + ∑ f : Fin 512, a (ix2 (j 0) f) * W (ix2 f (j 1))

/-- The second residual. -/
def finT (x acc : FVec Ideal S128x1024 .f32) (g : Vec Ideal S1x1024 .f32) : FVec Ideal S128x1024 .f32 :=
  fun j => x j + hS (fun d => acc (ix2 (j 0) d)) (fun d => g (ix2 0 d)) (j 1)

/-- The number of each row within its sample. -/
def posT : IVec S128x512 32 := fun j => BitVec.ofNat 32 ((j 0 : ℕ) % 16)

theorem lt_eq {α : Type} (n : ℕ) (h : n < 16) (a b : α) :
    Scalar.select (IntOp.cmpi CmpIPredicate.slt (BitVec.ofNat 32 n) 2#32) a b = if n < 2 then a else b := by
  interval_cases n <;> rfl

theorem pay3_eq (oa : Vec Ideal S128x512 .f32) (wa : Vec Ideal S512x1024 .bf16) (ob : Vec Ideal S128x512 .f32) (wb : Vec Ideal S512x1024 .bf16) (ga gb : Vec Ideal S128x1024 .f32)
    (wo : Vec Ideal S1024x1024 .bf16) (x : Vec Ideal S128x1024 .f32) (g : Vec Ideal S1x1024 .f32) :
    k0_pay3 (F := Ideal) oa wa ob wb ga gb wo x g = x1T oa wa ob wb ga gb wo x g := by
  funext j
  idx_vars j
  pointwise [k0_pay3, x1T, hS, rmsS, mgS]

theorem pay4_eq (v : FVec Ideal S128x1024 .f32) : k0_pay4 (F := Ideal) v = v := by
  funext j
  idx_vars j
  pointwise [k0_pay4]

theorem pay5_eq (v : FVec Ideal S128x1024 .f32) (g : Vec Ideal S1x1024 .f32) : k0_pay5 (F := Ideal) v g = hT v g := by
  funext j
  idx_vars j
  pointwise [k0_pay5, hT, hS, rmsS]

theorem pay6_eq : k0_pay6 (F := Ideal) = fun _ => 0 := by
  funext j
  idx_vars j
  pointwise [k0_pay6]

theorem never_eq : k0_pay7 (F := Ideal) (fun _ => 0#32) = fun _ => 0#1 := by
  funext j
  idx_vars j
  pointwise [k0_pay7]
  rfl

theorem pos_eq : k0_pay8 = posT := by
  funext j
  idx_vars j
  pointwise [k0_pay8, posT]
  revert j0
  decide +kernel

theorem mm9_eq (H : Vec Ideal S128x1024 .bf16) (W : Vec Ideal S1024x512 .bf16) : k0_pay9 H W = mmT H W := by
  funext j
  idx_vars j
  pointwise [k0_pay9, mmT]
theorem mm10_eq (H : Vec Ideal S128x1024 .bf16) (W : Vec Ideal S1024x512 .bf16) : k0_pay10 H W = mmT H W := by
  funext j
  idx_vars j
  pointwise [k0_pay10, mmT]
theorem mm11_eq (H : Vec Ideal S128x1024 .bf16) (W : Vec Ideal S1024x512 .bf16) : k0_pay11 H W = mmT H W := by
  funext j
  idx_vars j
  pointwise [k0_pay11, mmT]
theorem mm12_eq (H : Vec Ideal S128x1024 .bf16) (W : Vec Ideal S1024x512 .bf16) : k0_pay12 H W = mmT H W := by
  funext j
  idx_vars j
  pointwise [k0_pay12, mmT]
theorem mm13_eq (H : Vec Ideal S128x1024 .bf16) (W : Vec Ideal S1024x512 .bf16) : k0_pay13 H W = mmT H W := by
  funext j
  idx_vars j
  pointwise [k0_pay13, mmT]
theorem mm14_eq (H : Vec Ideal S128x1024 .bf16) (W : Vec Ideal S1024x512 .bf16) : k0_pay14 H W = mmT H W := by
  funext j
  idx_vars j
  pointwise [k0_pay14, mmT]

theorem sh1_23 (u p : Vec Ideal S128x512 .f32) : k0_pay23 posT u p = sh1T u p := by
  funext j
  idx_vars j
  pointwise [k0_pay23, k0_pay22, posT, sh1T]
  exact sel_eq _ 0 (by omega) (by norm_num) _ _

theorem sh1_19 (u p : Vec Ideal S128x512 .f32) : k0_pay19 posT u p = sh1T u p := by
  funext j
  idx_vars j
  pointwise [k0_pay19, k0_pay18, posT, sh1T]
  exact sel_eq _ 0 (by omega) (by norm_num) _ _

theorem sh2_24 (u p : Vec Ideal S128x512 .f32) : k0_pay24 posT u p = sh2T u p := by
  funext j
  idx_vars j
  pointwise [k0_pay24, k0_pay22, posT, sh2T]
  exact lt_eq _ (by omega) _ _

theorem mul_20 (u p : Vec Ideal S128x512 .f32) (cw : Vec Ideal S3x512 .f32) : k0_pay20 posT u p cw = fun j => cw (ix2 0 (j 1)) * sh2T u p j := by
  funext j
  idx_vars j
  pointwise [k0_pay20, k0_pay18, posT, sh2T]
  exact congrArg (fun z : EReal => cw (ix2 0 j1) * z) (lt_eq _ (by omega) _ _)

/-- The convolution of one block of columns. -/
def cvT (u s1 s2 : FVec Ideal S128x512 .f32) (cw : Vec Ideal S3x512 .f32) (cb : Vec Ideal S1x512 .f32) : FVec Ideal S128x512 .f32 :=
  fun j => convS (cw (ix2 0 (j 1))) (cw (ix2 1 (j 1))) (cw (ix2 2 (j 1))) (cb (ix2 0 (j 1))) (s2 j) (s1 j) (u j)

theorem conv_15 (u p : Vec Ideal S128x512 .f32) (cw : Vec Ideal S3x512 .f32) (cb : Vec Ideal S1x512 .f32) :
    k0_pay15 posT u p cw cb = cvT u (sh1T u p) (sh2T u p) cw cb := by
  funext j
  idx_vars j
  pointwise [k0_pay15, posT, cvT, convS, sh1T, sh2T]
  rw [lt_eq _ (by omega)]
  have e (a b : EReal) : Scalar.select (IntOp.cmpi CmpIPredicate.eq (BitVec.ofNat 32 (↑j0 % 16)) 0#32) a b = if (j0 : ℕ) % 16 = 0 then a else b :=
    sel_eq _ 0 (by omega) (by norm_num) _ _
  rw [e]
  rfl

theorem corner_eq (a v : FVec Ideal S128x512 .f32) :
    concatenate S128x512 0 [⟨S16x512, concatenate S16x512 1 [⟨S16x128, addf (extractStridedSlice S16x128 ![0, 0] a slices_S128x512_o0_0_S16x128) (select (fun _ => 0#1) (extractStridedSlice S16x128 ![0, 0] v slices_S128x512_o0_0_S16x128) (broadcast S16x128 (Scalar.ofBits (F := Ideal) .f32 0x00000000#32)))⟩,
      ⟨S16x384, extractStridedSlice S16x384 ![0, 128] a slices_S128x512_o0_128_S16x384⟩] concatenates_S16x128_S16x384_S16x512_d1⟩,
      ⟨S112x512, extractStridedSlice S112x512 ![16, 0] a slices_S128x512_o16_0_S112x512⟩] concatenates_S16x512_S112x512_S128x512_d0 = a := by
  funext j
  idx_vars j
  pointwise
  by_cases h : (j0 : ℕ) < 16
  · rw [dif_pos h]
    by_cases h' : (j1 : ℕ) < 128
    · rw [dif_pos h']; try rfl
    · rw [dif_neg h']; exact congrArg a (by idx_ext <;> omega)
  · rw [dif_neg h]; exact congrArg a (by idx_ext <;> omega)

theorem acc17_eq (u p gt v : Vec Ideal S128x512 .f32) (acc : Vec Ideal S128x1024 .f32) (cw : Vec Ideal S3x512 .f32) (cb : Vec Ideal S1x512 .f32) (W : Vec Ideal S512x1024 .bf16) :
    k0_pay17 (fun _ => 0#1) gt v acc (k0_pay15 posT u p cw cb) (k0_pay16 posT u p cw cb) W = accT acc (actT u (sh1T u p) (sh2T u p) gt cw cb) W := by
  unfold k0_pay17 k0_pay16
  dsimp only
  rw [corner_eq, conv_15]
  funext j
  idx_vars j
  pointwise [accT, actT, cvT, geluS, cdfS]

theorem acc21_eq (u gt s1 s2 : FVec Ideal S128x512 .f32) (acc : FVec Ideal S128x1024 .f32) (cw : Vec Ideal S3x512 .f32) (cb : Vec Ideal S1x512 .f32) (W : Vec Ideal S512x1024 .bf16) :
    k0_pay21 u gt acc s1 cw cb (fun j => cw (ix2 0 (j 1)) * s2 j) W = accT acc (actT u s1 s2 gt cw cb) W := by
  funext j
  idx_vars j
  pointwise [k0_pay21, accT, actT, geluS, convS, cdfS]

theorem acc1_eq (u gt s1 s2 : FVec Ideal S128x512 .f32) (acc : FVec Ideal S128x1024 .f32) (cw : Vec Ideal S3x512 .f32) (cb : Vec Ideal S1x512 .f32) (W : Vec Ideal S512x1024 .bf16) :
    k0_pay1 u gt acc s1 s2 cw cb W = accT acc (actT u s1 s2 gt cw cb) W := by
  funext j
  idx_vars j
  pointwise [k0_pay1, accT, actT, geluS, convS, cdfS]

theorem fin_eq (x acc : Vec Ideal S128x1024 .f32) (g : Vec Ideal S1x1024 .f32) : k0_pay2 (F := Ideal) x acc g = finT x acc g := by
  funext j
  idx_vars j
  pointwise [k0_pay2, finT, hS, rmsS]

end Cert.TailTile
end
end
-- ==== Proof.TailSpec.lean ====
module
public import proofs.«01_k».proof.Proof.TailOps
@[expose] public section
set_option maxRecDepth 16384
noncomputable section
namespace Cert.TailTile
open Idealize.ShloMosaic Idealize.ShloMosaic.TcCoe Idealize.SL.Sem Cert.TailIdeal Cert.TailIdeal.Gen
open Cert.FfnTile (hS rmsS convS cdfS geluS)

/-! # The sample's last call as sums over whole arrays -/

/-- The gated sum of the two attention outputs, projected. -/
def oG (OA OB : FVec Ideal S128x512 .f32) (P : FVec Ideal S128x4352 .f32) (WA WB : FVec Ideal S512x1024 .f32) (WO : FVec Ideal S1024x1024 .f32) (r : Fin 128) (d : Fin 1024) : EReal :=
  ∑ k : Fin 1024, (Ideal.logistic (P (ix2 r ⟨2304 + k, by omega⟩)) * (∑ j : Fin 512, OA (ix2 r j) * WA (ix2 j k))
    + Ideal.logistic (P (ix2 r ⟨3328 + k, by omega⟩)) * (∑ j : Fin 512, OB (ix2 r j) * WB (ix2 j k))) * WO (ix2 k d)

/-- The first residual. -/
def x1G (X : FVec Ideal S128x1024 .f32) (OA OB : FVec Ideal S128x512 .f32) (P : FVec Ideal S128x4352 .f32) (WA WB : FVec Ideal S512x1024 .f32) (WO : FVec Ideal S1024x1024 .f32)
    (g1 : FVec Ideal S1x1024 .f32) : FVec Ideal S128x1024 .f32 :=
  fun j => X j + hS (fun d => oG OA OB P WA WB WO (j 0) d) (fun d => g1 (ix2 0 d)) (j 1)

variable (X1 : FVec Ideal S128x1024 .f32) (g2 g3 : FVec Ideal S1x1024 .f32) (ST : FVec Ideal S8x2x3072 .f32) (Wu : FVec Ideal S1024x6144 .bf16)
  (CW : FVec Ideal S3x3072 .f32) (CB : FVec Ideal S1x3072 .f32) (Wd : FVec Ideal S3072x1024 .bf16)

/-- The up projection of the normalised row. -/
def uG (r : Fin 128) (f : Fin 6144) : EReal :=
  ∑ k : Fin 1024, hS (fun k => X1 (ix2 r k)) (fun k => g2 (ix2 0 k)) k * Wu (ix2 k f)

/-- The first half of a sample's up projection with the two rows of the state before it. -/
def uPad (b : Fin 8) (n : ℕ) (f : Fin 3072) : EReal :=
  if h : n < 2 then ST (ix3 b ⟨n, h⟩ f) else if h' : n < 18 then uG X1 g2 Wu ⟨b * 16 + n - 2, by omega⟩ ⟨f, by omega⟩ else 0

/-- Convolution, GELU and gate. -/
def actG (r : Fin 128) (f : Fin 3072) : EReal :=
  geluS (convS (CW (ix2 0 f)) (CW (ix2 1 f)) (CW (ix2 2 f)) (CB (ix2 0 f))
    (uPad X1 g2 ST Wu ⟨r / 16, by omega⟩ (r % 16) f) (uPad X1 g2 ST Wu ⟨r / 16, by omega⟩ (r % 16 + 1) f) (uPad X1 g2 ST Wu ⟨r / 16, by omega⟩ (r % 16 + 2) f))
    * uG X1 g2 Wu r ⟨3072 + f, by omega⟩

/-- The second residual. -/
def yG (r : Fin 128) (d : Fin 1024) : EReal :=
  X1 (ix2 r d) + hS (fun d => ∑ f : Fin 3072, actG X1 g2 ST Wu CW CB r f * Wd (ix2 f d)) (fun d => g3 (ix2 0 d)) d

/-- A column of the block `n` of six. -/
abbrev colOf (n : Fin 6) (f : Fin 512) : Fin 3072 := ⟨n * 512 + f, by omega⟩

/-- What the loads of one block of columns are, in the whole arrays. -/
structure Loads (n : Fin 6) (W1 W2 : Vec Ideal S1024x512 .bf16) (p : Vec Ideal S128x512 .f32)
    (cw : Vec Ideal S3x512 .f32) (cb : Vec Ideal S1x512 .f32) (W : Vec Ideal S512x1024 .bf16) : Prop where
  h1 : ∀ k f, W1 (ix2 k f) = Wu (ix2 k ⟨n * 512 + f, by omega⟩)
  h2 : ∀ k f, W2 (ix2 k f) = Wu (ix2 k ⟨3072 + (n * 512 + f), by omega⟩)
  p : ∀ (b : Fin 8) (i : Fin 2) (r : Fin 128) f, (r : ℕ) = b * 16 + i → p (ix2 r f) = ST (ix3 b i (colOf n f))
  cw : ∀ i f, cw (ix2 i f) = CW (ix2 i (colOf n f))
  cb : ∀ f, cb (ix2 0 f) = CB (ix2 0 (colOf n f))
  w : ∀ f d, W (ix2 f d) = Wd (ix2 (colOf n f) d)

/-- Convolution, GELU and gate of one block of columns, of what was loaded. -/
def blkT (H : Vec Ideal S128x1024 .bf16) (W1 W2 : Vec Ideal S1024x512 .bf16) (p : Vec Ideal S128x512 .f32)
    (cw : Vec Ideal S3x512 .f32) (cb : Vec Ideal S1x512 .f32) : FVec Ideal S128x512 .f32 :=
  actT (mmT H W1) (sh1T (mmT H W1) p) (sh2T (mmT H W1) p) (mmT H W2) cw cb

theorem mm_spec (H : Vec Ideal S128x1024 .bf16) (hH : H = hT X1 g2) (W : Vec Ideal S1024x512 .bf16) (col : Fin 512 → Fin 6144)
    (hW : ∀ k f, W (ix2 k f) = Wu (ix2 k (col f))) (r : Fin 128) (f : Fin 512) : mmT H W (ix2 r f) = uG X1 g2 Wu r (col f) := by
  subst hH
  show ∑ k : Fin 1024, hS (fun k => X1 (ix2 r k)) (fun k => g2 (ix2 0 k)) k * W (ix2 k f) = _
  simp only [hW]
  rfl

theorem uPad_row (b : Fin 8) (n : ℕ) (f : Fin 3072) (r : Fin 128) (h : 2 ≤ n) (h' : n < 18) (hr : (r : ℕ) = b * 16 + n - 2) :
    uPad X1 g2 ST Wu b n f = uG X1 g2 Wu r ⟨f, by omega⟩ := by
  unfold uPad
  rw [dif_neg (by omega), dif_pos h']
  congr 1
  exact Fin.ext hr.symm

theorem uPad_st (b : Fin 8) (n : ℕ) (f : Fin 3072) (h : n < 2) : uPad X1 g2 ST Wu b n f = ST (ix3 b ⟨n, h⟩ f) := by
  unfold uPad
  rw [dif_pos h]

theorem blk_spec (n : Fin 6) (H : Vec Ideal S128x1024 .bf16) (hH : H = hT X1 g2) (W1 W2 : Vec Ideal S1024x512 .bf16) (p : Vec Ideal S128x512 .f32)
    (cw : Vec Ideal S3x512 .f32) (cb : Vec Ideal S1x512 .f32) (W : Vec Ideal S512x1024 .bf16)
    (h : Loads ST Wu CW CB Wd n W1 W2 p cw cb W) (r : Fin 128) (f : Fin 512) :
    blkT H W1 W2 p cw cb (ix2 r f) = actG X1 g2 ST Wu CW CB r (colOf n f) := by
  have hU := mm_spec X1 g2 Wu H hH W1 _ h.h1
  have hG := mm_spec X1 g2 Wu H hH W2 _ h.h2
  have e0 : mmT H W1 (ix2 r f) = uPad X1 g2 ST Wu ⟨r / 16, by omega⟩ (r % 16 + 2) (colOf n f) := by
    rw [uPad_row X1 g2 ST Wu ⟨r / 16, by omega⟩ (r % 16 + 2) (colOf n f) r (by omega) (by omega) (by show (r : ℕ) = r / 16 * 16 + (r % 16 + 2) - 2; omega)]
    exact hU r f
  have e1 : sh1T (mmT H W1) p (ix2 r f) = uPad X1 g2 ST Wu ⟨r / 16, by omega⟩ (r % 16 + 1) (colOf n f) := by
    show (if (r : ℕ) % 16 = 0 then p (ix2 ⟨((r : ℕ) + 1) % 128, Nat.mod_lt _ (by norm_num)⟩ f) else mmT H W1 (ix2 ⟨((r : ℕ) + 127) % 128, Nat.mod_lt _ (by norm_num)⟩ f)) = _
    by_cases hz : (r : ℕ) % 16 = 0
    · rw [if_pos hz, uPad_st X1 g2 ST Wu _ _ _ (by omega), h.p ⟨r / 16, by omega⟩ 1 _ _ (by show ((r : ℕ) + 1) % 128 = r / 16 * 16 + 1; omega)]
      congr 2
      exact Fin.ext (by show 1 = (r : ℕ) % 16 + 1; omega)
    · rw [if_neg hz, hU, uPad_row X1 g2 ST Wu ⟨r / 16, by omega⟩ (r % 16 + 1) (colOf n f) ⟨((r : ℕ) + 127) % 128, Nat.mod_lt _ (by norm_num)⟩ (by omega) (by omega)
        (by show ((r : ℕ) + 127) % 128 = r / 16 * 16 + (r % 16 + 1) - 2; omega)]
  have e2 : sh2T (mmT H W1) p (ix2 r f) = uPad X1 g2 ST Wu ⟨r / 16, by omega⟩ (r % 16) (colOf n f) := by
    show (if (r : ℕ) % 16 < 2 then p (ix2 r f) else mmT H W1 (ix2 ⟨((r : ℕ) + 126) % 128, Nat.mod_lt _ (by norm_num)⟩ f)) = _
    by_cases hz : (r : ℕ) % 16 < 2
    · rw [if_pos hz, uPad_st X1 g2 ST Wu _ _ _ hz, h.p ⟨r / 16, by omega⟩ ⟨r % 16, hz⟩ _ _ (by show (r : ℕ) = r / 16 * 16 + r % 16; omega)]
    · rw [if_neg hz, hU, uPad_row X1 g2 ST Wu ⟨r / 16, by omega⟩ (r % 16) (colOf n f) ⟨((r : ℕ) + 126) % 128, Nat.mod_lt _ (by norm_num)⟩ (by omega) (by omega)
        (by show ((r : ℕ) + 126) % 128 = r / 16 * 16 + r % 16 - 2; omega)]
  show geluS (convS (cw (ix2 0 f)) (cw (ix2 1 f)) (cw (ix2 2 f)) (cb (ix2 0 f)) (sh2T (mmT H W1) p (ix2 r f)) (sh1T (mmT H W1) p (ix2 r f)) (mmT H W1 (ix2 r f))) * mmT H W2 (ix2 r f) = _
  rw [e0, e1, e2, hG, h.cw, h.cw, h.cw, h.cb]
  rfl

/-- What one block of columns adds to the down projection. -/
def pS (n : Fin 6) (r : Fin 128) (d : Fin 1024) : EReal := ∑ f : Fin 512, actG X1 g2 ST Wu CW CB r (colOf n f) * Wd (ix2 (colOf n f) d)

theorem acc_spec (n : Fin 6) (H : Vec Ideal S128x1024 .bf16) (hH : H = hT X1 g2) (W1 W2 : Vec Ideal S1024x512 .bf16) (p : Vec Ideal S128x512 .f32)
    (cw : Vec Ideal S3x512 .f32) (cb : Vec Ideal S1x512 .f32) (W : Vec Ideal S512x1024 .bf16) (acc : FVec Ideal S128x1024 .f32) (z : Fin 128 → Fin 1024 → EReal)
    (hz : ∀ r d, acc (ix2 r d) = z r d) (h : Loads ST Wu CW CB Wd n W1 W2 p cw cb W) (r : Fin 128) (d : Fin 1024) :
    accT acc (blkT H W1 W2 p cw cb) W (ix2 r d) = z r d + pS X1 g2 ST Wu CW CB Wd n r d := by
  show acc (ix2 r d) + ∑ f : Fin 512, blkT H W1 W2 p cw cb (ix2 r f) * W (ix2 f d) = _
  simp only [hz, blk_spec X1 g2 ST Wu CW CB Wd n H hH W1 W2 p cw cb W h, h.w]
  rfl

theorem fin_spec (x acc : FVec Ideal S128x1024 .f32) (g : Vec Ideal S1x1024 .f32) (hx : x = X1) (hg : g = g3)
    (ha : ∀ r d, acc (ix2 r d) = 0 + pS X1 g2 ST Wu CW CB Wd 0 r d + pS X1 g2 ST Wu CW CB Wd 1 r d + pS X1 g2 ST Wu CW CB Wd 2 r d
      + pS X1 g2 ST Wu CW CB Wd 3 r d + pS X1 g2 ST Wu CW CB Wd 4 r d + pS X1 g2 ST Wu CW CB Wd 5 r d) (r : Fin 128) (d : Fin 1024) :
    finT x acc g (ix2 r d) = yG X1 g2 g3 ST Wu CW CB Wd r d := by
  subst hx hg
  have e : ∀ d : Fin 1024, acc (ix2 r d) = ∑ f : Fin 3072, actG x g2 ST Wu CW CB r f * Wd (ix2 f d) := by
    intro d
    rw [ha, Fin.sum_univ_tiles 6 512 rfl (fun f : Fin 3072 => actG x g2 ST Wu CW CB r f * Wd (ix2 f d)), Fin.sum_univ_six, zero_add]
    rfl
  show x (ix2 r d) + hS (fun d => acc (ix2 r d)) (fun d => g (ix2 0 d)) d = _
  simp only [e]
  rfl

/-- The first residual, of what was loaded. -/
theorem x1_spec (X : FVec Ideal S128x1024 .f32) (OA OB : FVec Ideal S128x512 .f32) (P : FVec Ideal S128x4352 .f32) (WA WB : FVec Ideal S512x1024 .f32) (WO : FVec Ideal S1024x1024 .f32)
    (g1 : FVec Ideal S1x1024 .f32) (oa ob : Vec Ideal S128x512 .f32) (ga gb : Vec Ideal S128x1024 .f32) (wa wb : Vec Ideal S512x1024 .bf16) (wo : Vec Ideal S1024x1024 .bf16)
    (x : Vec Ideal S128x1024 .f32) (g : Vec Ideal S1x1024 .f32) (hx : x = X) (hg : g = g1) (hoa : oa = OA) (hob : ob = OB)
    (hga : ∀ r k, ga (ix2 r k) = P (ix2 r ⟨2304 + k, by omega⟩)) (hgb : ∀ r k, gb (ix2 r k) = P (ix2 r ⟨3328 + k, by omega⟩))
    (hwa : ∀ j k, wa (ix2 j k) = WA (ix2 j k)) (hwb : ∀ j k, wb (ix2 j k) = WB (ix2 j k)) (hwo : ∀ j k, wo (ix2 j k) = WO (ix2 j k)) :
    x1T oa wa ob wb ga gb wo x g = x1G X OA OB P WA WB WO g1 := by
  subst hx hg hoa hob
  funext j
  idx_vars j
  show x (ix2 j0 j1) + hS (fun d => ∑ k : Fin 1024, mgS oa ob ga gb wa wb j0 k * wo (ix2 k d)) (fun d => g (ix2 0 d)) j1
    = x (ix2 j0 j1) + hS (fun d => oG oa ob P WA WB WO j0 d) (fun d => g (ix2 0 d)) j1
  simp only [mgS, oG, hga, hgb, hwa, hwb, hwo]

end Cert.TailTile
end
end
-- ==== Proof.TailPoint.lean ====
module
public import proofs.«01_k».proof.Proof.TailSpec
public import proofs.«01_k».proof.Proof.Gen.TailIdeal.Value
public import Idealize.ShloMosaic.Lib.Pipeline.ValueKit
public import Idealize.ShloMosaic.Lib.Pipeline.ReadBack
@[expose] public section
set_option maxRecDepth 16384
noncomputable section
namespace Cert.TailTile
open Idealize.ShloMosaic Idealize.ShloMosaic.TcCoe Idealize.SL.Sem Cert.TailIdeal Cert.TailIdeal.Gen
open Idealize.ShloMosaic.Pipeline (Dat)
variable (m : (ℓ : Loc nD τ sig) → Buf (Elt Ideal) ℓ)

/-! # What the two grid points leave -/

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, t.val] ∧ win0_12.index t = ![0, t.val]
    ∧ win0_13.index t = ![0, 2 + t.val] ∧ win0_14.index t = ![0, t.val] ∧ win0_15.index t = ![0, t.val] ∧ win0_16.index t = ![t.val, 0]
    ∧ t.val < 2 := (by decide +kernel : ∀ t : Fin grid0.N, _)

abbrev aX (c : Dev nD) : FVec Ideal S128x1024 .f32 := m ((c : Thread nD τ).loc main_arg0)
abbrev aOA (c : Dev nD) : FVec Ideal S128x512 .f32 := m ((c : Thread nD τ).loc main_arg1)
abbrev aOB (c : Dev nD) : FVec Ideal S128x512 .f32 := m ((c : Thread nD τ).loc main_arg2)
abbrev aP (c : Dev nD) : FVec Ideal S128x4352 .f32 := m ((c : Thread nD τ).loc main_arg3)
abbrev aWA (c : Dev nD) : FVec Ideal S512x1024 .f32 := m ((c : Thread nD τ).loc main_arg4)
abbrev aWB (c : Dev nD) : FVec Ideal S512x1024 .f32 := m ((c : Thread nD τ).loc main_arg5)
abbrev aWO (c : Dev nD) : FVec Ideal S1024x1024 .f32 := m ((c : Thread nD τ).loc main_arg6)
abbrev aG1 (c : Dev nD) : FVec Ideal S1x1024 .f32 := m ((c : Thread nD τ).loc main_arg7)
abbrev aG2 (c : Dev nD) : FVec Ideal S1x1024 .f32 := m ((c : Thread nD τ).loc main_arg8)
abbrev aG3 (c : Dev nD) : FVec Ideal S1x1024 .f32 := m ((c : Thread nD τ).loc main_arg9)
abbrev aST (c : Dev nD) : FVec Ideal S8x2x3072 .f32 := m ((c : Thread nD τ).loc main_arg10)
abbrev aWu (c : Dev nD) : FVec Ideal S1024x6144 .bf16 := m ((c : Thread nD τ).loc main_arg11)
abbrev aCW (c : Dev nD) : FVec Ideal S3x3072 .f32 := m ((c : Thread nD τ).loc main_arg12)
abbrev aCB (c : Dev nD) : FVec Ideal S1x3072 .f32 := m ((c : Thread nD τ).loc main_arg13)
abbrev aWd (c : Dev nD) : FVec Ideal S3072x1024 .bf16 := m ((c : Thread nD τ).loc main_arg14)

/-- The first residual of the arguments. -/
abbrev aX1 (c : Dev nD) : FVec Ideal S128x1024 .f32 := x1G (aX m c) (aOA m c) (aOB m c) (aP m c) (aWA m c) (aWB m c) (aWO m c) (aG1 m c)

theorem b0 (c : Dev nD) (t : Fin cfg0.N) : (iblk m c 0 t : Vec Ideal S128x1024 .f32) = aX m c := by
  blk_ext! [iblk, V, idx t]
theorem b1 (c : Dev nD) (t : Fin cfg0.N) : (iblk m c 1 t : Vec Ideal S128x512 .f32) = aOA m c := by
  blk_ext! [iblk, V, idx t]
theorem b2 (c : Dev nD) (t : Fin cfg0.N) : (iblk m c 2 t : Vec Ideal S128x512 .f32) = aOB m c := by
  blk_ext! [iblk, V, idx t]
theorem b3 (c : Dev nD) (t : Fin cfg0.N) : (iblk m c 3 t : Vec Ideal S128x4352 .f32) = aP m c := by
  blk_ext! [iblk, V, idx t]
theorem b7 (c : Dev nD) (t : Fin cfg0.N) : (iblk m c 7 t : Vec Ideal S1x1024 .f32) = aG1 m c := by
  blk_ext! [iblk, V, idx t]
theorem b8 (c : Dev nD) (t : Fin cfg0.N) : (iblk m c 8 t : Vec Ideal S1x1024 .f32) = aG2 m c := by
  blk_ext! [iblk, V, idx t]
theorem b9 (c : Dev nD) (t : Fin cfg0.N) : (iblk m c 9 t : Vec Ideal S1x1024 .f32) = aG3 m c := by
  blk_ext! [iblk, V, idx t]
theorem v0 (c : Dev nD) (j : S512x1024.Idx) : (V m c main_v0 : FVec Ideal S512x1024 .bf16) j = aWA m c j := by
  unfold V
  simp only [List.flatten_cons, List.flatten_nil, List.cons_append, List.nil_append, List.append_nil, hostOps0, hostOps0_1, hostOps0_2]
  entry_read
  rfl
theorem v1 (c : Dev nD) (j : S512x1024.Idx) : (V m c main_v1 : FVec Ideal S512x1024 .bf16) j = aWB m c j := by
  unfold V
  simp only [List.flatten_cons, List.flatten_nil, List.cons_append, List.nil_append, List.append_nil, hostOps0, hostOps0_1, hostOps0_2]
  entry_read
  rfl
theorem v2 (c : Dev nD) (j : S1024x1024.Idx) : (V m c main_v2 : FVec Ideal S1024x1024 .bf16) j = aWO m c j := by
  unfold V
  simp only [List.flatten_cons, List.flatten_nil, List.cons_append, List.nil_append, List.append_nil, hostOps0, hostOps0_1, hostOps0_2]
  entry_read
  rfl
theorem v5 (c : Dev nD) : (V m c main_v5 : Vec Ideal S16x128 .i32) = fun _ => 0#32 := by
  unfold V
  simp only [List.flatten_cons, List.flatten_nil, List.cons_append, List.nil_append, List.append_nil, hostOps0, hostOps0_1, hostOps0_2]
  entry_read
  rfl
theorem v4 (c : Dev nD) : (V m c main_v4 : FVec Ideal S128x3072 .f32)
    = shapeCast _ (pad S8x16x3072 ![0, 0, 0] ![0, 14, 0] ![0, 0, 0] (aST m c) (sitofp .f32 (constantI S_ 32 0#32) : FVec Ideal S_ .f32) pads_S8x2x3072_S8x16x3072_000_0140_000 h_S_ : FVec Ideal S8x16x3072 .f32) shapeCasts_S8x16x3072_S128x3072 := by
  unfold V
  simp only [List.flatten_cons, List.flatten_nil, List.cons_append, List.nil_append, List.append_nil, hostOps0, hostOps0_1, hostOps0_2]
  entry_read
  rfl
theorem b4 (c : Dev nD) (t : Fin cfg0.N) (j : Fin 512) (k : Fin 1024) : (iblk m c 4 t : Vec Ideal S512x1024 .bf16) (ix2 j k) = aWA m c (ix2 j k) := by
  rw [← v0]
  blk_ext [iblk, idx t]
theorem b5 (c : Dev nD) (t : Fin cfg0.N) (j : Fin 512) (k : Fin 1024) : (iblk m c 5 t : Vec Ideal S512x1024 .bf16) (ix2 j k) = aWB m c (ix2 j k) := by
  rw [← v1]
  blk_ext [iblk, idx t]
theorem b6 (c : Dev nD) (t : Fin cfg0.N) (j : Fin 1024) (k : Fin 1024) : (iblk m c 6 t : Vec Ideal S1024x1024 .bf16) (ix2 j k) = aWO m c (ix2 j k) := by
  rw [← v2]
  blk_ext [iblk, idx t]
/-- The switch that never is on. -/
theorem never (c : Dev nD) (t : Fin cfg0.N) : (iblk m c 10 t : Vec Ideal S16x128 .i32) = fun _ => 0#32 := by
  have e : (iblk m c 10 t : Vec Ideal S16x128 .i32) = V m c main_v5 := by blk_ext! [iblk, idx t]
  rw [e]
  exact v5 m c
theorem b11 (c : Dev nD) (t : Fin cfg0.N) (b : Fin 8) (i : Fin 2) (r : Fin 128) (f : Fin 1536) (g : Fin 3072) (hr : (r : ℕ) = b * 16 + i) (hg : (g : ℕ) = t.val * 1536 + f) :
    (iblk m c 11 t : Vec Ideal S128x1536 .f32) (ix2 r f) = aST m c (ix3 b i g) := by
  have e : (iblk m c 11 t : Vec Ideal S128x1536 .f32) (ix2 r f) = (V m c main_v4 : FVec Ideal S128x3072 .f32) (ix2 r g) := by blk_ext [iblk, idx t]
  rw [e, v4]
  pointwise
  have hb : (r : ℕ) / 16 = b := by omega
  have hi : (r : ℕ) % 16 = i := by omega
  rw [dif_pos ⟨by omega, by omega⟩]
  exact congrArg₂ (fun (b : Fin 8) (i : Fin 2) => aST m c (ix3 b i g)) (Fin.ext hb) (Fin.ext hi)
theorem b12 (c : Dev nD) (t : Fin cfg0.N) (k : Fin 1024) (f : Fin 1536) (g : Fin 6144) (hg : (g : ℕ) = t.val * 1536 + f) :
    (iblk m c 12 t : Vec Ideal S1024x1536 .bf16) (ix2 k f) = aWu m c (ix2 k g) := by
  blk_ext [iblk, V, idx t]
theorem b13 (c : Dev nD) (t : Fin cfg0.N) (k : Fin 1024) (f : Fin 1536) (g : Fin 6144) (hg : (g : ℕ) = 3072 + (t.val * 1536 + f)) :
    (iblk m c 13 t : Vec Ideal S1024x1536 .bf16) (ix2 k f) = aWu m c (ix2 k g) := by
  blk_ext [iblk, V, idx t]
theorem b14 (c : Dev nD) (t : Fin cfg0.N) (i : Fin 3) (f : Fin 1536) (g : Fin 3072) (hg : (g : ℕ) = t.val * 1536 + f) :
    (iblk m c 14 t : Vec Ideal S3x1536 .f32) (ix2 i f) = aCW m c (ix2 i g) := by
  blk_ext [iblk, V, idx t]
theorem b15 (c : Dev nD) (t : Fin cfg0.N) (f : Fin 1536) (g : Fin 3072) (hg : (g : ℕ) = t.val * 1536 + f) :
    (iblk m c 15 t : Vec Ideal S1x1536 .f32) (ix2 0 f) = aCB m c (ix2 0 g) := by
  blk_ext [iblk, V, idx t]
theorem b16 (c : Dev nD) (t : Fin cfg0.N) (f : Fin 1536) (d : Fin 1024) (g : Fin 3072) (hg : (g : ℕ) = t.val * 1536 + f) :
    (iblk m c 16 t : Vec Ideal S1536x1024 .bf16) (ix2 f d) = aWd m c (ix2 g d) := by
  blk_ext [iblk, V, idx t]

theorem blkT_eq (H : Vec Ideal S128x1024 .bf16) (W1 W2 : Vec Ideal S1024x512 .bf16) (p : Vec Ideal S128x512 .f32)
    (cw : Vec Ideal S3x512 .f32) (cb : Vec Ideal S1x512 .f32) :
    actT (mmT H W1) (sh1T (mmT H W1) p) (sh2T (mmT H W1) p) (mmT H W2) cw cb = blkT H W1 W2 p cw cb := rfl

theorem scrA0 (c : Dev nD) (t : Fin cfg0.N) (h0 : t.val % 2 = 0) (h1 : ¬ t.val % 2 = 1) :
    ((outsAt0 m c t.val t.isLt).2.2.1 : Vec Ideal S128x1024 .f32) = aX1 m c := by
  rw [outsAt0_A m c t h0 h1]
  frame_out
  simp only [pay4_eq, pay3_eq]
  refine x1_spec (aX m c) (aOA m c) (aOB m c) (aP m c) (aWA m c) (aWB m c) (aWO m c) (aG1 m c) _ _ _ _ _ _ _ _ _ (b0 m c t) (b7 m c t) (b1 m c t) (b2 m c t) ?_ ?_ (b4 m c t) (b5 m c t) (b6 m c t)
  · intro r k; pointwise; rw [b3]; blk_ext
  · intro r k; pointwise; rw [b3]; blk_ext

theorem scrA1 (c : Dev nD) (t : Fin cfg0.N) (h0 : t.val % 2 = 0) (h1 : ¬ t.val % 2 = 1) :
    ((outsAt0 m c t.val t.isLt).2.2.2.1 : Vec Ideal S128x1024 .bf16) = hT (aX1 m c) (aG2 m c) := by
  have e := scrA0 m c t h0 h1
  rw [outsAt0_A m c t h0 h1] at e ⊢
  revert e
  frame_out
  simp only [pay4_eq]
  intro e
  rw [e, pay5_eq, b8]

/-- The second residual's share of the blocks of columns. -/
abbrev pC (c : Dev nD) (n : Fin 6) (r : Fin 128) (d : Fin 1024) : EReal := pS (aX1 m c) (aG2 m c) (aST m c) (aWu m c) (aCW m c) (aCB m c) (aWd m c) n r d

set_option maxHeartbeats 400000 in
theorem scrA2 (c : Dev nD) (t : Fin cfg0.N) (h0 : t.val % 2 = 0) (h1 : ¬ t.val % 2 = 1) (r : Fin 128) (d : Fin 1024) :
    ((outsAt0 m c t.val t.isLt).2.2.2.2 : Vec Ideal S128x1024 .f32) (ix2 r d) = 0 + pC m c 0 r d + pC m c 1 r d + pC m c 2 r d := by
  have e := scrA1 m c t h0 h1
  rw [outsAt0_A m c t h0 h1] at e ⊢
  revert e
  frame_out
  rw [never]
  simp (disch := decide) only [View.readCov_fill]
  intro e
  simp only [e]
  rw [pos_eq]
  simp only [never_eq, mul_20, sh1_19, sh1_23, sh2_24, mm9_eq, mm10_eq, mm11_eq, mm12_eq, mm13_eq, mm14_eq, pay6_eq, acc17_eq, acc21_eq, acc1_eq]
  erw [never_eq, acc17_eq]
  simp only [blkT_eq]
  have ht : t.val = 0 := by have := (idx t).2.2.2.2.2.2.2.2.2.2.2.2.2.2.2.2.2; omega
  refine acc_spec (aX1 m c) (aG2 m c) (aST m c) (aWu m c) (aCW m c) (aCB m c) (aWd m c) 2 _ rfl _ _ _ _ _ _ _ (fun r d => 0 + pC m c 0 r d + pC m c 1 r d)
    (fun r d => acc_spec (aX1 m c) (aG2 m c) (aST m c) (aWu m c) (aCW m c) (aCB m c) (aWd m c) 1 _ rfl _ _ _ _ _ _ _ (fun r d => 0 + pC m c 0 r d)
      (fun r d => acc_spec (aX1 m c) (aG2 m c) (aST m c) (aWu m c) (aCW m c) (aCB m c) (aWd m c) 0 _ rfl _ _ _ _ _ _ _ (fun _ _ => 0) (fun _ _ => rfl) ?_ r d) ?_ r d) ?_ r d
  all_goals
    refine ⟨?_, ?_, ?_, ?_, ?_, ?_⟩
    · intro k f; pointwise; exact b12 m c t _ _ _ (by simp [ht] <;> omega)
    · intro k f; pointwise; exact b13 m c t _ _ _ (by simp [ht] <;> omega)
    · intro b i r f hr; pointwise; exact b11 m c t b i _ _ _ (by simp [hr]) (by simp [ht] <;> omega)
    · intro i f; pointwise; exact b14 m c t _ _ _ (by simp [ht] <;> omega)
    · intro f; pointwise; exact b15 m c t _ _ (by simp [ht] <;> omega)
    · intro f d; pointwise; exact b16 m c t _ _ _ (by simp [ht] <;> omega)

set_option maxHeartbeats 400000 in
theorem outB (c : Dev nD) (t : Fin cfg0.N) (h0 : ¬ t.val % 2 = 0) (h1 : t.val % 2 = 1) (r : Fin 128) (d : Fin 1024) :
    ((outsAt0 m c t.val t.isLt).1 : Vec Ideal S128x1024 .f32) (ix2 r d)
      = yG (aX1 m c) (aG2 m c) (aG3 m c) (aST m c) (aWu m c) (aCW m c) (aCB m c) (aWd m c) r d := by
  have h1' : t.val - 1 < cfg0.N := lt_of_le_of_lt (Nat.sub_le _ _) t.isLt
  have e0 := scrA0 m c ⟨t.val - 1, h1'⟩ (by show (t.val - 1) % 2 = 0; omega) (by show ¬ (t.val - 1) % 2 = 1; omega)
  have e1 := scrA1 m c ⟨t.val - 1, h1'⟩ (by show (t.val - 1) % 2 = 0; omega) (by show ¬ (t.val - 1) % 2 = 1; omega)
  have e2 := scrA2 m c ⟨t.val - 1, h1'⟩ (by show (t.val - 1) % 2 = 0; omega) (by show ¬ (t.val - 1) % 2 = 1; omega)
  rw [outsAt0_B m c t h0 h1]
  frame_out
  rw [never]
  simp only [read_unread_whole]
  simp only [e0, e1]
  rw [pos_eq]
  simp only [never_eq, mul_20, sh1_19, sh1_23, sh2_24, mm9_eq, mm10_eq, mm11_eq, mm12_eq, mm13_eq, mm14_eq, pay6_eq, acc17_eq, acc21_eq, acc1_eq, fin_eq]
  erw [never_eq, acc17_eq]
  simp only [blkT_eq]
  have ht : t.val = 1 := by have := (idx t).2.2.2.2.2.2.2.2.2.2.2.2.2.2.2.2.2; omega
  refine fin_spec (aX1 m c) (aG2 m c) (aG3 m c) (aST m c) (aWu m c) (aCW m c) (aCB m c) (aWd m c) _ _ _ rfl (b9 m c t) (fun r d => ?_) r d
  refine acc_spec (aX1 m c) (aG2 m c) (aST m c) (aWu m c) (aCW m c) (aCB m c) (aWd m c) 5 _ rfl _ _ _ _ _ _ _ (fun r d => 0 + pC m c 0 r d + pC m c 1 r d + pC m c 2 r d + pC m c 3 r d + pC m c 4 r d)
    (fun r d => acc_spec (aX1 m c) (aG2 m c) (aST m c) (aWu m c) (aCW m c) (aCB m c) (aWd m c) 4 _ rfl _ _ _ _ _ _ _ (fun r d => 0 + pC m c 0 r d + pC m c 1 r d + pC m c 2 r d + pC m c 3 r d)
      (fun r d => acc_spec (aX1 m c) (aG2 m c) (aST m c) (aWu m c) (aCW m c) (aCB m c) (aWd m c) 3 _ rfl _ _ _ _ _ _ _ (fun r d => 0 + pC m c 0 r d + pC m c 1 r d + pC m c 2 r d) e2 ?_ r d) ?_ r d) ?_ r d
  all_goals
    refine ⟨?_, ?_, ?_, ?_, ?_, ?_⟩
    · intro k f; pointwise; exact b12 m c t _ _ _ (by simp [ht] <;> omega)
    · intro k f; pointwise; exact b13 m c t _ _ _ (by simp [ht] <;> omega)
    · intro b i r f hr; pointwise; exact b11 m c t b i _ _ _ (by simp [hr]) (by simp [ht] <;> omega)
    · intro i f; pointwise; exact b14 m c t _ _ _ (by simp [ht] <;> omega)
    · intro f; pointwise; exact b15 m c t _ _ (by simp [ht] <;> omega)
    · intro f d; pointwise; exact b16 m c t _ _ _ (by simp [ht] <;> omega)

theorem piece (H : Vec Ideal S128x1024 .bf16) (X1 : FVec Ideal S128x1024 .f32) (g2 : FVec Ideal S1x1024 .f32) (Wu : FVec Ideal S1024x6144 .bf16) (hH : H = hT X1 g2) (W : Vec Ideal S1024x512 .bf16) (o : ℕ) (ho : o + 512 ≤ 6144)
    (hW : ∀ k (f : Fin 512), W (ix2 k f) = Wu (ix2 k ⟨o + f, by omega⟩)) (y : S128x512.Idx) (r : Fin 128) (g : Fin 6144) (hr : r.val = (y 0).val) (hg : g.val = o + (y 1).val) :
    mmT H W y = uG X1 g2 Wu r g := by
  idx_vars y
  rw [mm_spec X1 g2 Wu H hH W (fun f => ⟨o + f, by omega⟩) hW y0 y1]
  exact congrArg₂ (fun r g => uG X1 g2 Wu r g) (Fin.ext hr.symm) (Fin.ext hg.symm)

set_option maxHeartbeats 400000 in
theorem uA (c : Dev nD) (t : Fin cfg0.N) (h0 : t.val % 2 = 0) (h1 : ¬ t.val % 2 = 1) (r : Fin 128) (f : Fin 1536) (g : Fin 6144) (hg : (g : ℕ) = t.val * 1536 + f) :
    ((outsAt0 m c t.val t.isLt).2.1 : Vec Ideal S128x1536 .f32) (ix2 r f) = uG (aX1 m c) (aG2 m c) (aWu m c) r g := by
  have e := scrA1 m c t h0 h1
  rw [outsAt0_A m c t h0 h1] at e ⊢
  revert e
  frame_out
  intro e
  rw [e]
  simp only [mm9_eq, mm11_eq, mm13_eq]
  generalize hy : (ix2 r f : S128x1536.Idx) = y
  canon_tiles y h
  · have h0 := (congrArg (fun y : S128x1536.Idx => (y 0).val) hy).trans ‹_›
    have h1 := (congrArg (fun y : S128x1536.Idx => (y 1).val) hy).trans ‹_›
    refine piece _ (aX1 m c) (aG2 m c) (aWu m c) rfl _ (t.val * 1536 + 1024) (by have := (idx t).2.2.2.2.2.2.2.2.2.2.2.2.2.2.2.2.2; omega) (fun k f => ?_) _ _ _ h0 ?_
    · pointwise; exact b12 m c t _ _ _ (by simp <;> omega)
    · rw [hg]; have h1' : f.val = _ := h1; omega
  · have h0 := (congrArg (fun y : S128x1536.Idx => (y 0).val) hy).trans ‹_›
    have h1 := (congrArg (fun y : S128x1536.Idx => (y 1).val) hy).trans ‹_›
    refine piece _ (aX1 m c) (aG2 m c) (aWu m c) rfl _ (t.val * 1536 + 512) (by have := (idx t).2.2.2.2.2.2.2.2.2.2.2.2.2.2.2.2.2; omega) (fun k f => ?_) _ _ _ h0 ?_
    · pointwise; exact b12 m c t _ _ _ (by simp <;> omega)
    · rw [hg]; have h1' : f.val = _ := h1; omega
  · have h0 := (congrArg (fun y : S128x1536.Idx => (y 0).val) hy).trans ‹_›
    have h1 := (congrArg (fun y : S128x1536.Idx => (y 1).val) hy).trans ‹_›
    refine piece _ (aX1 m c) (aG2 m c) (aWu m c) rfl _ (t.val * 1536 + 0) (by have := (idx t).2.2.2.2.2.2.2.2.2.2.2.2.2.2.2.2.2; omega) (fun k f => ?_) _ _ _ h0 ?_
    · pointwise; exact b12 m c t _ _ _ (by simp <;> omega)
    · rw [hg]; have h1' : f.val = _ := h1; omega

set_option maxHeartbeats 400000 in
theorem uB (c : Dev nD) (t : Fin cfg0.N) (h0 : ¬ t.val % 2 = 0) (h1 : t.val % 2 = 1) (r : Fin 128) (f : Fin 1536) (g : Fin 6144) (hg : (g : ℕ) = t.val * 1536 + f) :
    ((outsAt0 m c t.val t.isLt).2.1 : Vec Ideal S128x1536 .f32) (ix2 r f) = uG (aX1 m c) (aG2 m c) (aWu m c) r g := by
  have h1' : t.val - 1 < cfg0.N := lt_of_le_of_lt (Nat.sub_le _ _) t.isLt
  have e1 := scrA1 m c ⟨t.val - 1, h1'⟩ (by show (t.val - 1) % 2 = 0; omega) (by show ¬ (t.val - 1) % 2 = 1; omega)
  rw [outsAt0_B m c t h0 h1]
  frame_out
  simp only [read_unread_whole]
  simp only [e1]
  simp only [mm9_eq, mm11_eq, mm13_eq]
  generalize hy : (ix2 r f : S128x1536.Idx) = y
  canon_tiles y h
  · have h0 := (congrArg (fun y : S128x1536.Idx => (y 0).val) hy).trans ‹_›
    have h1 := (congrArg (fun y : S128x1536.Idx => (y 1).val) hy).trans ‹_›
    refine piece _ (aX1 m c) (aG2 m c) (aWu m c) rfl _ (t.val * 1536 + 1024) (by have := (idx t).2.2.2.2.2.2.2.2.2.2.2.2.2.2.2.2.2; omega) (fun k f => ?_) _ _ _ h0 ?_
    · pointwise; exact b12 m c t _ _ _ (by simp <;> omega)
    · rw [hg]; have h1' : f.val = _ := h1; omega
  · have h0 := (congrArg (fun y : S128x1536.Idx => (y 0).val) hy).trans ‹_›
    have h1 := (congrArg (fun y : S128x1536.Idx => (y 1).val) hy).trans ‹_›
    refine piece _ (aX1 m c) (aG2 m c) (aWu m c) rfl _ (t.val * 1536 + 512) (by have := (idx t).2.2.2.2.2.2.2.2.2.2.2.2.2.2.2.2.2; omega) (fun k f => ?_) _ _ _ h0 ?_
    · pointwise; exact b12 m c t _ _ _ (by simp <;> omega)
    · rw [hg]; have h1' : f.val = _ := h1; omega
  · have h0 := (congrArg (fun y : S128x1536.Idx => (y 0).val) hy).trans ‹_›
    have h1 := (congrArg (fun y : S128x1536.Idx => (y 1).val) hy).trans ‹_›
    refine piece _ (aX1 m c) (aG2 m c) (aWu m c) rfl _ (t.val * 1536 + 0) (by have := (idx t).2.2.2.2.2.2.2.2.2.2.2.2.2.2.2.2.2; omega) (fun k f => ?_) _ _ _ h0 ?_
    · pointwise; exact b12 m c t _ _ _ (by simp <;> omega)
    · rw [hg]; have h1' : f.val = _ := h1; omega

/-- A grid point leaves its columns of the up projection. -/
theorem uP (c : Dev nD) (t : Fin cfg0.N) (r : Fin 128) (f : Fin 1536) (g : Fin 6144) (hg : (g : ℕ) = t.val * 1536 + f) :
    ((outsAt0 m c t.val t.isLt).2.1 : Vec Ideal S128x1536 .f32) (ix2 r f) = uG (aX1 m c) (aG2 m c) (aWu m c) r g := by
  by_cases h : t.val % 2 = 0
  · exact uA m c t h (by omega) r f g hg
  · exact uB m c t h (by omega) r f g hg

end Cert.TailTile
end
end
-- ==== Proof.TailArr.lean ====
module
public import proofs.«01_k».proof.Proof.TailPoint
@[expose] public section
set_option maxRecDepth 16384
noncomputable section
namespace Cert.TailTile
open Idealize.ShloMosaic Idealize.ShloMosaic.TcCoe Idealize.SL.Sem Cert.TailIdeal Cert.TailIdeal.Gen Cert.TailIdeal.Value
open Idealize.ShloMosaic.Pipeline (Dat)
variable (m : (ℓ : Loc nD τ sig) → Buf (Elt Ideal) ℓ)

/-! # The two arrays the sample's last call leaves -/

/-- The result array, entry by entry. -/
theorem out_at (c : Dev nD) (r : Fin 128) (d : Fin 1024) :
    (G17 m c : FVec Ideal S128x1024 .f32) (ix2 r d) = yG (aX1 m c) (aG2 m c) (aG3 m c) (aST m c) (aWu m c) (aCW m c) (aCB m c) (aWd m c) r d := by
  have h : 1 < cfg0.N := lt_of_lt_of_eq (by decide) N_0.symm
  rw [G17_last, ← outsAt0_sweep m c 1 h]
  exact outB m c ⟨1, h⟩ (by show ¬ 1 % 2 = 0; omega) (by show 1 % 2 = 1; omega) r d

/-- The first half of the up projection, entry by entry. -/
theorem u_at (c : Dev nD) (r : Fin 128) (f : Fin 3072) :
    (G18 m c : FVec Ideal S128x3072 .f32) (ix2 r f) = uG (aX1 m c) (aG2 m c) (aWu m c) r ⟨f, by omega⟩ := by
  have hN : cfg0.N = 2 := N_0
  have hp : pt18Of (ix2 r f : S128x3072.Idx) = f.val / 1536 := by
    show 2 * (r.val / 128 - 0) + 1 * (f.val / 1536 - 0) = _; omega
  have key : ∀ (n : ℕ) (h : n < cfg0.N) (l : S128x1536.Idx), n = f.val / 1536 → l = ix2 r ⟨f.val % 1536, by omega⟩ →
      (Pipeline.accAt (fun n h => stAt0 m c n h junk0) (stAt0 m c) 0 n (by omega)).2.1 l
        = uG (aX1 m c) (aG2 m c) (aWu m c) r ⟨f, by omega⟩ := by
    intro n h l hn hl
    subst hl
    rw [← outsAt0_sweep m c n h]
    exact uP m c ⟨n, h⟩ r _ _ (by show f.val = n * 1536 + f.val % 1536; omega)
  unfold G18
  rw [dif_pos (by rw [hp]; omega)]
  exact key _ (by rw [hp]; omega) _ hp (by idx_ext <;> first | rfl | omega)

end Cert.TailTile
end
end
-- ==== Proof.TailRead.lean ====
module
public import proofs.«01_k».proof.Proof.TailSpec
public import proofs.«01_k».proof.Proof.Gen.TailRefIdeal.Run
public import proofs.«01_k».proof.Proof.Gen.TailRefIdeal.Read
@[expose] public section
set_option maxRecDepth 16384
noncomputable section
namespace Cert.TailRefTile
open Idealize.ShloMosaic Idealize.ShloMosaic.TcCoe Idealize.SL.Sem Cert.TailRefIdeal Cert.TailRefIdeal.Gen Cert.TailRefIdeal.Read
open Cert.FfnTile (hS rmsS convS cdfS geluS)
open Cert.TailTile (oG x1G uG uPad actG yG)
variable (X : FVec Ideal S128x1024 .f32) (OA OB : FVec Ideal S128x512 .f32) (P : FVec Ideal S128x4352 .f32) (WA WB : FVec Ideal S512x1024 .f32) (WO : FVec Ideal S1024x1024 .f32)
    (g1 g2 g3 : FVec Ideal S1x1024 .f32) (ST : FVec Ideal S8x2x3072 .f32) (Wu : FVec Ideal S1024x6144 .bf16)
  (CW : FVec Ideal S3x3072 .f32) (CB : FVec Ideal S1x3072 .f32) (Wd : FVec Ideal S3072x1024 .bf16)

/-! # The reference, entry by entry -/

/-- The gates. -/
theorem ga_at (r : Fin 128) (k : Fin 1024) : val_main_v7 (F := Ideal) P (ix2 r k) = Ideal.logistic (P (ix2 r ⟨2304 + k, by omega⟩)) := by
  pointwise [val_main_v0, val_main_v2, val_main_v3, val_main_v4, val_main_v5, val_main_v6, val_main_v7, val_main_cst, val_main_cst_0]
  rfl
theorem gb_at (r : Fin 128) (k : Fin 1024) : val_main_v15 (F := Ideal) P (ix2 r k) = Ideal.logistic (P (ix2 r ⟨3328 + k, by omega⟩)) := by
  pointwise [val_main_v1, val_main_v10, val_main_v11, val_main_v12, val_main_v13, val_main_v14, val_main_v15, val_main_cst_1, val_main_cst_2]
  rfl

/-- The projected sum. -/
theorem o_at (r : Fin 128) (d : Fin 1024) : val_main_v19 (F := Ideal) OA OB P WA WB WO (ix2 r d) = oG OA OB P WA WB WO r d := by
  unfold oG
  simp only [← ga_at, ← gb_at]
  pointwise [val_main_v8, val_main_v9, val_main_v16, val_main_v17, val_main_v18, val_main_v19]

/-- The first residual. -/
theorem x1_at (r : Fin 128) (d : Fin 1024) : val_main_v34 (F := Ideal) X OA OB P WA WB WO g1 (ix2 r d) = x1G X OA OB P WA WB WO g1 (ix2 r d) := by
  show _ = X (ix2 r d) + hS (fun d => oG OA OB P WA WB WO r d) (fun d => g1 (ix2 0 d)) d
  simp only [← o_at]
  pointwise [val_main_v20, val_main_v21, val_main_v22, val_main_v23, val_main_v24, val_main_v25, val_main_v26, val_main_v27, val_main_v28, val_main_v29, val_main_v30, val_main_v31, val_main_v32, val_main_v33, val_main_v34, val_main_cst_3, val_main_cst_4, val_main_cst_5, hS, rmsS]

/-- The up projection of the normalised rows. -/
theorem up_at (r : Fin 128) (f : Fin 6144) : val_main_v50 (F := Ideal) X OA OB P WA WB WO g1 g2 Wu (ix2 r f) = uG (x1G X OA OB P WA WB WO g1) g2 Wu r f := by
  unfold uG
  simp only [← x1_at]
  pointwise [val_main_v35, val_main_v36, val_main_v37, val_main_v38, val_main_v39, val_main_v40, val_main_v41, val_main_v42, val_main_v43, val_main_v44, val_main_v45, val_main_v46, val_main_v47, val_main_v48, val_main_v49, val_main_v50, val_main_cst_6, val_main_cst_7, val_main_cst_8, hS, rmsS]

/-- Its first half. -/
theorem u_at (r : Fin 128) (f : Fin 3072) : val_main_v51 (F := Ideal) X OA OB P WA WB WO g1 g2 Wu (ix2 r f) = uG (x1G X OA OB P WA WB WO g1) g2 Wu r ⟨f, by omega⟩ := by
  rw [← up_at]
  pointwise [val_main_v51]

/-- Its first half with the state before it. -/
theorem pad_at (b : Fin 8) (n : Fin 18) (f : Fin 3072) : val_main_v54 (F := Ideal) X OA OB P WA WB WO g1 g2 ST Wu (ix3 b n f) = uPad (x1G X OA OB P WA WB WO g1) g2 ST Wu b n f := by
  unfold uPad
  simp only [← u_at]
  by_cases h : (n : ℕ) < 2
  · rw [dif_pos h]
    pointwise [val_main_v53, val_main_v54]
    rw [dif_pos h]
  · rw [dif_neg h]
    pointwise [val_main_v53, val_main_v54]
    rw [dif_neg h]
    exact congrArg (fun r : Fin 128 => val_main_v51 (F := Ideal) X OA OB P WA WB WO g1 g2 Wu (ix2 r f)) (Fin.ext (by show (b : ℕ) * 16 + (n - 2) = b * 16 + n - 2; omega))

/-- The convolution. -/
theorem conv_at (b : Fin 8) (s : Fin 16) (f : Fin 3072) : val_main_v78 (F := Ideal) X OA OB P WA WB WO g1 g2 ST Wu CW CB (ix3 b s f)
    = convS (CW (ix2 0 f)) (CW (ix2 1 f)) (CW (ix2 2 f)) (CB (ix2 0 f)) (uPad (x1G X OA OB P WA WB WO g1) g2 ST Wu b s f)
      (uPad (x1G X OA OB P WA WB WO g1) g2 ST Wu b (s + 1) f) (uPad (x1G X OA OB P WA WB WO g1) g2 ST Wu b (s + 2) f) := by
  have e0 := pad_at X OA OB P WA WB WO g1 g2 ST Wu b ⟨s, by omega⟩ f
  have e1 : val_main_v54 (F := Ideal) X OA OB P WA WB WO g1 g2 ST Wu (ix3 b ⟨1 + s, by omega⟩ f) = uPad (x1G X OA OB P WA WB WO g1) g2 ST Wu b (s + 1) f := by
    rw [pad_at, Nat.add_comm (s : ℕ) 1]
  have e2 : val_main_v54 (F := Ideal) X OA OB P WA WB WO g1 g2 ST Wu (ix3 b ⟨2 + s, by omega⟩ f) = uPad (x1G X OA OB P WA WB WO g1) g2 ST Wu b (s + 2) f := by
    rw [pad_at, Nat.add_comm (s : ℕ) 2]
  rw [← e0, ← e1, ← e2]
  pointwise [val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, convS]

/-- Convolution, GELU and gate. -/
theorem act_at (r : Fin 128) (f : Fin 3072) : val_main_v93 (F := Ideal) X OA OB P WA WB WO g1 g2 ST Wu CW CB (ix2 r f) = actG (x1G X OA OB P WA WB WO g1) g2 ST Wu CW CB r f := by
  unfold actG
  have e := conv_at X OA OB P WA WB WO g1 g2 ST Wu CW CB ⟨r / 16, by omega⟩ ⟨r % 16, by omega⟩ f
  rw [← e, ← up_at]
  pointwise [val_main_v79, val_main_v80, val_main_v81, val_main_v82, val_main_v83, val_main_v84, val_main_v85, val_main_v86, val_main_v87, val_main_v88, val_main_v89, val_main_v90, val_main_v91, val_main_v92, val_main_v93, val_main_v52, val_main_cst_9, val_main_cst_10, val_main_cst_11, val_main_cst_12, geluS, cdfS]
  generalize val_main_v78 (F := Ideal) X OA OB P WA WB WO g1 g2 ST Wu CW CB (ix3 ⟨r / 16, _⟩ ⟨r % 16, _⟩ f) = x
  rw [mul_comm (x * x) x]

/-- The down projection. -/
theorem down_at (r : Fin 128) (d : Fin 1024) : val_main_v95 (F := Ideal) X OA OB P WA WB WO g1 g2 ST Wu CW CB Wd (ix2 r d)
    = ∑ f : Fin 3072, actG (x1G X OA OB P WA WB WO g1) g2 ST Wu CW CB r f * Wd (ix2 f d) := by
  simp only [← act_at]
  pointwise [val_main_v94, val_main_v95]

/-- The result. -/
theorem out_at (r : Fin 128) (d : Fin 1024) : val_main_v110 (F := Ideal) X OA OB P WA WB WO g1 g2 g3 ST Wu CW CB Wd (ix2 r d)
    = yG (x1G X OA OB P WA WB WO g1) g2 g3 ST Wu CW CB Wd r d := by
  unfold yG
  simp only [← down_at, ← x1_at]
  pointwise [val_main_v96, val_main_v97, val_main_v98, val_main_v99, val_main_v100, val_main_v101, val_main_v102, val_main_v103, val_main_v104, val_main_v105, val_main_v106, val_main_v107, val_main_v108, val_main_v109, val_main_v110, val_main_cst_13, val_main_cst_14, val_main_cst_15, hS, rmsS]

end Cert.TailRefTile
end
end
-- ==== Proof.TailClaim.lean ====
module
public import proofs.«01_k».proof.Defs
public import proofs.«01_k».proof.Proof.TailArr
public import proofs.«01_k».proof.Proof.TailRead
public import Idealize.ShloMosaic.Lib.Quiescent
@[expose] public section
set_option maxRecDepth 16384
noncomputable section
namespace Cert.TailClaim
open Idealize.ShloMosaic Idealize.ShloMosaic.TcCoe Idealize.SL.Sem
open Cert.TailIdeal.Value (G17 G18)

variable (m : (ℓ : Loc Cert.TailIdeal.nD Cert.TailIdeal.τ Cert.TailIdeal.sig) → Buf (Elt Ideal) ℓ)

/-- The reference's first result, over the kernel's arguments, is the kernel's first array. -/
theorem out_eq (c : Dev Cert.TailIdeal.nD) :
    Cert.TailRefIdeal.Read.val_main_v110 (F := Ideal) (Cert.TailTile.aX m c) (Cert.TailTile.aOA m c) (Cert.TailTile.aOB m c) (Cert.TailTile.aP m c) (Cert.TailTile.aWA m c) (Cert.TailTile.aWB m c) (Cert.TailTile.aWO m c) (Cert.TailTile.aG1 m c) (Cert.TailTile.aG2 m c) (Cert.TailTile.aG3 m c) (Cert.TailTile.aST m c) (Cert.TailTile.aWu m c) (Cert.TailTile.aCW m c) (Cert.TailTile.aCB m c) (Cert.TailTile.aWd m c) = G17 m c := by
  funext j
  idx_vars j
  exact (Cert.TailRefTile.out_at _ _ _ _ _ _ _ _ _ _ _ _ _ _ _ _ _).trans (Cert.TailTile.out_at m c _ _).symm

/-- The reference's second result, over the kernel's arguments, is the kernel's second array. -/
theorem u_eq (c : Dev Cert.TailIdeal.nD) :
    Cert.TailRefIdeal.Read.val_main_v51 (F := Ideal) (Cert.TailTile.aX m c) (Cert.TailTile.aOA m c) (Cert.TailTile.aOB m c) (Cert.TailTile.aP m c) (Cert.TailTile.aWA m c) (Cert.TailTile.aWB m c) (Cert.TailTile.aWO m c) (Cert.TailTile.aG1 m c) (Cert.TailTile.aG2 m c) (Cert.TailTile.aWu m c) = G18 m c := by
  funext j
  idx_vars j
  exact (Cert.TailRefTile.u_at _ _ _ _ _ _ _ _ _ _ _ _).trans (Cert.TailTile.u_at m c _ _).symm

/-- Every run of the kernel and every run of the reference leave the same two arrays. -/
theorem algebraic : Cert.algebraic_TailIdeal_TailRefIdeal := fun m g m' g' _ hag =>
  ⟨fun c => G17 m c, fun c => G18 m c, Cert.TailIdeal.Value.run m g,
    (θ_run _ _ _).mono (fun r h c => ⟨(h c).1.trans (by
        obtain ⟨e0, e1, e2, e3, e4, e5, e6, e7, e8, e9, e10, e11, e12, e13, e14⟩ := hag c
        rw [Cert.TailRefIdeal.Read.val_main_v110_eq]
        show Cert.TailRefIdeal.Read.val_main_v110 (F := Ideal) (m' ((c.tc : Thread Cert.TailRefIdeal.nD Cert.TailRefIdeal.τ).loc Cert.TailRefIdeal.main_arg0)) (m' ((c.tc : Thread Cert.TailRefIdeal.nD Cert.TailRefIdeal.τ).loc Cert.TailRefIdeal.main_arg1)) (m' ((c.tc : Thread Cert.TailRefIdeal.nD Cert.TailRefIdeal.τ).loc Cert.TailRefIdeal.main_arg2)) (m' ((c.tc : Thread Cert.TailRefIdeal.nD Cert.TailRefIdeal.τ).loc Cert.TailRefIdeal.main_arg3)) (m' ((c.tc : Thread Cert.TailRefIdeal.nD Cert.TailRefIdeal.τ).loc Cert.TailRefIdeal.main_arg4)) (m' ((c.tc : Thread Cert.TailRefIdeal.nD Cert.TailRefIdeal.τ).loc Cert.TailRefIdeal.main_arg5)) (m' ((c.tc : Thread Cert.TailRefIdeal.nD Cert.TailRefIdeal.τ).loc Cert.TailRefIdeal.main_arg6)) (m' ((c.tc : Thread Cert.TailRefIdeal.nD Cert.TailRefIdeal.τ).loc Cert.TailRefIdeal.main_arg7)) (m' ((c.tc : Thread Cert.TailRefIdeal.nD Cert.TailRefIdeal.τ).loc Cert.TailRefIdeal.main_arg8)) (m' ((c.tc : Thread Cert.TailRefIdeal.nD Cert.TailRefIdeal.τ).loc Cert.TailRefIdeal.main_arg9)) (m' ((c.tc : Thread Cert.TailRefIdeal.nD Cert.TailRefIdeal.τ).loc Cert.TailRefIdeal.main_arg10)) (m' ((c.tc : Thread Cert.TailRefIdeal.nD Cert.TailRefIdeal.τ).loc Cert.TailRefIdeal.main_arg11)) (m' ((c.tc : Thread Cert.TailRefIdeal.nD Cert.TailRefIdeal.τ).loc Cert.TailRefIdeal.main_arg12)) (m' ((c.tc : Thread Cert.TailRefIdeal.nD Cert.TailRefIdeal.τ).loc Cert.TailRefIdeal.main_arg13)) (m' ((c.tc : Thread Cert.TailRefIdeal.nD Cert.TailRefIdeal.τ).loc Cert.TailRefIdeal.main_arg14)) = _
        rw [e0, e1, e2, e3, e4, e5, e6, e7, e8, e9, e10, e11, e12, e13, e14]
        exact out_eq m c), (h c).2.1.trans (by
        obtain ⟨e0, e1, e2, e3, e4, e5, e6, e7, e8, e9, e10, e11, e12, e13, e14⟩ := hag c
        rw [Cert.TailRefIdeal.Read.val_main_v51_eq]
        show Cert.TailRefIdeal.Read.val_main_v51 (F := Ideal) (m' ((c.tc : Thread Cert.TailRefIdeal.nD Cert.TailRefIdeal.τ).loc Cert.TailRefIdeal.main_arg0)) (m' ((c.tc : Thread Cert.TailRefIdeal.nD Cert.TailRefIdeal.τ).loc Cert.TailRefIdeal.main_arg1)) (m' ((c.tc : Thread Cert.TailRefIdeal.nD Cert.TailRefIdeal.τ).loc Cert.TailRefIdeal.main_arg2)) (m' ((c.tc : Thread Cert.TailRefIdeal.nD Cert.TailRefIdeal.τ).loc Cert.TailRefIdeal.main_arg3)) (m' ((c.tc : Thread Cert.TailRefIdeal.nD Cert.TailRefIdeal.τ).loc Cert.TailRefIdeal.main_arg4)) (m' ((c.tc : Thread Cert.TailRefIdeal.nD Cert.TailRefIdeal.τ).loc Cert.TailRefIdeal.main_arg5)) (m' ((c.tc : Thread Cert.TailRefIdeal.nD Cert.TailRefIdeal.τ).loc Cert.TailRefIdeal.main_arg6)) (m' ((c.tc : Thread Cert.TailRefIdeal.nD Cert.TailRefIdeal.τ).loc Cert.TailRefIdeal.main_arg7)) (m' ((c.tc : Thread Cert.TailRefIdeal.nD Cert.TailRefIdeal.τ).loc Cert.TailRefIdeal.main_arg8)) (m' ((c.tc : Thread Cert.TailRefIdeal.nD Cert.TailRefIdeal.τ).loc Cert.TailRefIdeal.main_arg11)) = _
        rw [e0, e1, e2, e3, e4, e5, e6, e7, e8, e11]
        exact u_eq m c), (h c).2.2⟩) (Cert.TailRefIdeal.Value.run m' g')⟩

/-- Every run of the reference keeps its arguments; it has no semaphores. -/
theorem refFrame : Cert.quiescent_TailRefIdeal := fun m g _ =>
  (θ_run _ _ _).mono (fun r h => ⟨fun c => (h c).2.2, sem_eq_zero_of_no_sems (by decide) r.2⟩) (Cert.TailRefIdeal.Value.run m g)

end Cert.TailClaim
end
end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnTile
public import proofs.«01_k».proof.Proof.FfnSpec
public import proofs.«01_k».proof.Proof.FfnPoint
public import proofs.«01_k».proof.Proof.FfnCarry
public import proofs.«01_k».proof.Proof.FfnArr
public import proofs.«01_k».proof.Proof.FfnRead
public import proofs.«01_k».proof.Proof.FfnClaim
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Pre_finite_scores
public import proofs.«01_k».proof.Proof.AttnSoft
public import proofs.«01_k».proof.Proof.AttnTile
public import proofs.«01_k».proof.Proof.AttnCov
public import proofs.«01_k».proof.Proof.AttnPoint
public import proofs.«01_k».proof.Proof.AttnOut
public import proofs.«01_k».proof.Proof.AttnArr
public import proofs.«01_k».proof.Proof.AttnRead
public import proofs.«01_k».proof.Proof.AttnReal
public import proofs.«01_k».proof.Proof.AttnClaim
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.TailIdeal.Value
public import proofs.«01_k».proof.Proof.Gen.TailRefIdeal.Run
public import proofs.«01_k».proof.Proof.Gen.TailRefIdeal.Read
public import proofs.«01_k».proof.Proof.ProjClaim
public import proofs.«01_k».proof.Proof.TailOps
public import proofs.«01_k».proof.Proof.TailSpec
public import proofs.«01_k».proof.Proof.TailPoint
public import proofs.«01_k».proof.Proof.TailArr
public import proofs.«01_k».proof.Proof.TailRead
public import proofs.«01_k».proof.Proof.TailClaim
public import Idealize.ShloMosaic.Adequacy
public import Idealize.ShloMosaic.Init

@[expose] public section

noncomputable section

namespace Cert.Proof

open Idealize.ShloMosaic Idealize.SL.Sem Cert.Ffn

theorem claim : Cert.Claim := ⟨Cert.Ffn.Gen.facts, Cert.FfnIdeal.Gen.facts, Cert.FfnRefIdeal.Gen.facts,
  Cert.Attn.Gen.facts, Cert.AttnIdeal.Gen.facts, Cert.AttnRefIdeal.Gen.facts,
  Cert.Proj.Gen.facts, Cert.ProjIdeal.Gen.facts, Cert.ProjRefIdeal.Gen.facts,
  Cert.Tail.Gen.facts, Cert.TailIdeal.Gen.facts, Cert.TailRefIdeal.Gen.facts, Cert.Pre_finite_scores.Gen.facts,
  fun m ρ _ => Cert.Ffn.Gen.frame m ρ, fun m ρ _ => Cert.FfnIdeal.Gen.frame m ρ, Cert.FfnClaim.refFrame,
  fun m ρ _ => Cert.Attn.Gen.frame m ρ, fun m ρ _ => Cert.AttnIdeal.Gen.frame m ρ, fun m ρ _ => Cert.AttnIdeal.Gen.frame m ρ,
  Cert.AttnClaim.refFrame, Cert.AttnClaim.refFrame',
  fun m ρ _ => Cert.Proj.Gen.frame m ρ, fun m ρ _ => Cert.ProjIdeal.Gen.frame m ρ, Cert.ProjClaim.refFrame,
  fun m ρ _ => Cert.Tail.Gen.frame m ρ, fun m ρ _ => Cert.TailIdeal.Gen.frame m ρ, Cert.TailClaim.refFrame,
  trivial, Cert.FfnClaim.algebraic, trivial, Cert.AttnClaim.algebraic, trivial, Cert.ProjClaim.algebraic, trivial, Cert.TailClaim.algebraic⟩

end Cert.Proof

end
